-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S1x4096x5120 : Shape := ⟨3, ![1, 4096, 5120]⟩
abbrev S5120 : Shape := ⟨1, ![5120]⟩
abbrev S640x5120 : Shape := ⟨2, ![640, 5120]⟩
abbrev S640 : Shape := ⟨1, ![640]⟩
abbrev S_ : Shape := ⟨0, ![]⟩

class Facts : Prop where
  bitsLt_bf16_f32 : FTy.bits .bf16 < FTy.bits .f32
  bcast_S_S5120 : S_.BroadcastsInDim S5120 (![] : Fin 0 → Fin S5120.rank)

variable [Facts]

def fn {F : FTy → Type} [FloatOps F] (main_arg0 : FVec F S1x4096x5120 .bf16) (main_arg1 : FVec F S5120 .bf16) (main_arg2 : FVec F S640x5120 .fp8e4m3) (main_arg3 : FVec F S640 .f32) : IVec S5120 1 :=
  let main_v0 : FVec F S5120 .f32 := (extf .f32 · bitsLt_bf16_f32) main_arg1
  let main_v1 : FVec F S5120 .f32 := Host.absf main_v0
  let main_cst : FVec F S_ .f32 := constant S_ .f32 0x7F7F0000#32
  let main_v2 : FVec F S5120 .f32 := broadcastInDim S5120 ![] bcast_S_S5120 main_cst
  let main_v3 : IVec S5120 1 := cmpf .ole main_v1 main_v2
  main_v3
-- ==== Kernel.lean ====
abbrev S1x4096x5120 : Shape := ⟨3, ![1, 4096, 5120]⟩
abbrev S5120 : Shape := ⟨1, ![5120]⟩
abbrev S640x5120 : Shape := ⟨2, ![640, 5120]⟩
abbrev S640 : Shape := ⟨1, ![640]⟩
abbrev S4096x5120 : Shape := ⟨2, ![4096, 5120]⟩
abbrev S1x5120 : Shape := ⟨2, ![1, 5120]⟩
abbrev S1x640 : Shape := ⟨2, ![1, 640]⟩
abbrev S4096x640 : Shape := ⟨2, ![4096, 640]⟩
abbrev S32x8x128 : Shape := ⟨3, ![32, 8, 128]⟩
abbrev S256x5120 : Shape := ⟨2, ![256, 5120]⟩
abbrev S256x640 : Shape := ⟨2, ![256, 640]⟩
abbrev S2x8x128 : Shape := ⟨3, ![2, 8, 128]⟩
abbrev S256x128 : Shape := ⟨2, ![256, 128]⟩
abbrev S16x128 : Shape := ⟨2, ![16, 128]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S128x128 : Shape := ⟨2, ![128, 128]⟩
abbrev S8x128 : Shape := ⟨2, ![8, 128]⟩
abbrev S1x8x128 : Shape := ⟨3, ![1, 8, 128]⟩
abbrev S1x4096x640 : Shape := ⟨3, ![1, 4096, 640]⟩
abbrev S32x1x128 : Shape := ⟨3, ![32, 1, 128]⟩
abbrev S1x4096x1 : Shape := ⟨3, ![1, 4096, 1]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x5120, .bf16⟩
  | .hbm, ⟨1, _⟩ => ⟨S5120, .bf16⟩
  | .hbm, ⟨2, _⟩ => ⟨S640x5120, .fp8e4m3⟩
  | .hbm, ⟨3, _⟩ => ⟨S640, .f32⟩
  | .hbm, ⟨4, _⟩ => ⟨S4096x5120, .bf16⟩
  | .hbm, ⟨5, _⟩ => ⟨S1x5120, .bf16⟩
  | .hbm, ⟨6, _⟩ => ⟨S1x640, .f32⟩
  | .hbm, ⟨7, _⟩ => ⟨S4096x640, .bf16⟩
  | .hbm, ⟨8, _⟩ => ⟨S4096x5120, .fp8e4m3⟩
  | .hbm, ⟨9, _⟩ => ⟨S32x8x128, .f32⟩
  | .hbm, ⟨10, _⟩ => ⟨S1x4096x640, .bf16⟩
  | .hbm, ⟨11, _⟩ => ⟨S1x4096x5120, .fp8e4m3⟩
  | .hbm, ⟨12, _⟩ => ⟨S32x1x128, .f32⟩
  | .hbm, ⟨13, _⟩ => ⟨S32x128, .f32⟩
  | .hbm, ⟨14, _⟩ => ⟨S1x4096x1, .f32⟩
  | .local _ .vmem, ⟨0, _⟩ => ⟨S256x5120, .bf16⟩
  | .local _ .vmem, ⟨1, _⟩ => ⟨S256x5120, .bf16⟩
  | .local _ .vmem, ⟨2, _⟩ => ⟨S1x5120, .bf16⟩
  | .local _ .vmem, ⟨3, _⟩ => ⟨S640x5120, .fp8e4m3⟩
  | .local _ .vmem, ⟨4, _⟩ => ⟨S1x640, .f32⟩
  | .local _ .vmem, ⟨5, _⟩ => ⟨S256x640, .bf16⟩
  | .local _ .vmem, ⟨6, _⟩ => ⟨S256x640, .bf16⟩
  | .local _ .vmem, ⟨7, _⟩ => ⟨S256x5120, .fp8e4m3⟩
  | .local _ .vmem, ⟨8, _⟩ => ⟨S256x5120, .fp8e4m3⟩
  | .local _ .vmem, ⟨9, _⟩ => ⟨S2x8x128, .f32⟩
  | .local _ .vmem, ⟨10, _⟩ => ⟨S2x8x128, .f32⟩
  | .local _ .vmem, ⟨11, _⟩ => ⟨S256x5120, .f32⟩
  | .local _ .vmem, ⟨12, _⟩ => ⟨S256x128, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x4096x5120 : Shape := ⟨3, ![1, 4096, 5120]⟩
abbrev S5120 : Shape := ⟨1, ![5120]⟩
abbrev S640x5120 : Shape := ⟨2, ![640, 5120]⟩
abbrev S640 : Shape := ⟨1, ![640]⟩
abbrev S1x5120 : Shape := ⟨2, ![1, 5120]⟩
abbrev S1x640 : Shape := ⟨2, ![1, 640]⟩
abbrev S1x4096x640 : Shape := ⟨3, ![1, 4096, 640]⟩
abbrev S1x4096x1 : Shape := ⟨3, ![1, 4096, 1]⟩
abbrev S4096x5120 : Shape := ⟨2, ![4096, 5120]⟩
abbrev S4096 : Shape := ⟨1, ![4096]⟩
abbrev S4096x1 : Shape := ⟨2, ![4096, 1]⟩
abbrev S4096x640 : Shape := ⟨2, ![4096, 640]⟩

abbrev nBuf : Space → Nat
  | .hbm => 9
  | .vmem => 7
  | .smem => 0
  | _ => 0

abbrev bufTy : (tb : Table) → Fin (tcTables nBuf tb) → BufTy
  | .hbm, ⟨0, _⟩ => ⟨S1x4096x5120, .bf16⟩
  | .hbm, ⟨1, _⟩ => ⟨S5120, .bf16⟩
  | .hbm, ⟨2, _⟩ => ⟨S640x5120, .fp8e4m3⟩
  | .hbm, ⟨3, _⟩ => ⟨S640, .f32⟩
  | .hbm, ⟨4, _⟩ => ⟨S1x5120, .bf16⟩
  | .hbm, ⟨5, _⟩ => ⟨S1x640, .f32⟩
  | .hbm, ⟨6, _⟩ => ⟨S1x4096x640, .bf16⟩
  | .hbm, ⟨7, _⟩ => ⟨S1x4096x5120, .fp8e4m3⟩
  | .hbm, ⟨8, _⟩ => ⟨S1x4096x1, .f32⟩
  | .local _ .vmem, ⟨0, _⟩ => ⟨S1x4096x5120, .bf16⟩
  | .local _ .vmem, ⟨1, _⟩ => ⟨S1x5120, .bf16⟩
  | .local _ .vmem, ⟨2, _⟩ => ⟨S640x5120, .fp8e4m3⟩
  | .local _ .vmem, ⟨3, _⟩ => ⟨S1x640, .f32⟩
  | .local _ .vmem, ⟨4, _⟩ => ⟨S1x4096x640, .bf16⟩
  | .local _ .vmem, ⟨5, _⟩ => ⟨S1x4096x5120, .fp8e4m3⟩
  | .local _ .vmem, ⟨6, _⟩ => ⟨S1x4096x1, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S1x4096x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the run of the kernel's body and its frame share: the windows' blocks, the arrays before and after the body, the host
   lines around it. The text is the generated one for results nothing is said of. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v4, main_v5, main_v6, main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x640 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x8x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x5120 .f32 := Memref.whole cc0_scratch0
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRun.lean ====
/- The run of the kernel's body, nothing said of what it leaves in the results' buffers. The text is the generated one. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 19752000 in
/-- The body's triple: on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x5120 .bf16) (harg1 : arg1.IsWhole) (arg2 : Memref sig .tc .vmem S1x5120 .bf16) (harg2 : arg2.IsWhole) (arg3 : Memref sig .tc .vmem S640x5120 .fp8e4m3) (harg3 : arg3.IsWhole) (arg4 : Memref sig .tc .vmem S1x640 .f32) (harg4 : arg4.IsWhole) (arg5 : Memref sig .tc .vmem S256x640 .bf16) (harg5 : arg5.IsWhole) (arg6 : Memref sig .tc .vmem S256x5120 .fp8e4m3) (harg6 : arg6.IsWhole) (arg7 : Memref sig .tc .vmem S2x8x128 .f32) (harg7 : arg7.IsWhole) (arg8 : Memref sig .tc .vmem S256x5120 .f32) (harg8 : arg8.IsWhole) (arg9 : Memref sig .tc .vmem S256x128 .f32) (harg9 : arg9.IsWhole)
    (x0 : Vec F S256x5120 .bf16) (x1 : Vec F S1x5120 .bf16) (x2 : Vec F S640x5120 .fp8e4m3) (x3 : Vec F S1x640 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9) K := by
    intro E K
    simp only [cc0_rmsnorm_fp8_linear_eq_skeleton]; unfold cc0_rmsnorm_fp8_linear_skel
    simp only [k0_part333_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part334_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part335_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part336_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part337_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part338_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The kernel's frame: it ends, without fault, its arguments unchanged and the semaphores at zero. The text is the generated one
   for results nothing is said of. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Body.lean ====
/- The block the kernel leaves at one grid point, written once as a function of the four blocks it reads: the tiles of
   the row groups, the two running reductions, the two powers of two, and the lists of stores. -/
module

public import proofs.«01_k».proof.Proof.Gen.KernelIdeal
public import Idealize.ShloMosaic.Lib.Pipeline.FrameBody

@[expose] public section

noncomputable section

namespace Cert.Hand.Kn

open Idealize.ShloMosaic Cert.KernelIdeal Cert.KernelIdeal.Gen

/-- The numbers below `n`, the largest first, as indices below `k`. -/
def downFrom (k : ℕ) : (n : ℕ) → n ≤ k → List (Fin k)
  | 0, _ => []
  | n + 1, h => ⟨n, h⟩ :: downFrom k n (Nat.le_of_succ_le h)

theorem mem_downFrom {k : ℕ} {i : Fin k} : ∀ {n : ℕ} {h : n ≤ k}, i ∈ downFrom k n h ↔ i.val < n
  | 0, _ => by simp [downFrom]
  | n + 1, h => by
    rw [downFrom, List.mem_cons, mem_downFrom, Fin.ext_iff]
    simp only
    omega

theorem inbX (g : Fin 8) (h : Fin 2) (j : Fin 40) :
    ∀ a, (![g.val * 32 + h.val * 16, j.val * 128] : Fin 2 → ℕ) a + S16x128.size a ≤ S256x5120.size a := by
  intro a; fin_cases a
  · show g.val * 32 + h.val * 16 + 16 ≤ 256; omega
  · show j.val * 128 + 128 ≤ 5120; omega

theorem inbG (j : Fin 40) : ∀ a, (![0, j.val * 128] : Fin 2 → ℕ) a + S1x128.size a ≤ S1x5120.size a := by
  intro a; fin_cases a
  · show 0 + 1 ≤ 1; omega
  · show j.val * 128 + 128 ≤ 5120; omega

theorem inbC (g : Fin 8) (j : Fin 40) :
    ∀ a, (![g.val * 32, j.val * 128] : Fin 2 → ℕ) a + S32x128.size a ≤ S256x5120.size a := by
  intro a; fin_cases a
  · show g.val * 32 + 32 ≤ 256; omega
  · show j.val * 128 + 128 ≤ 5120; omega

theorem inbS (g : Fin 8) : ∀ a, (![g.val * 32, 0] : Fin 2 → ℕ) a + S32x128.size a ≤ S256x128.size a := by
  intro a; fin_cases a
  · show g.val * 32 + 32 ≤ 256; omega
  · show 0 + 128 ≤ 128; omega

theorem inbY (n : Fin 5) : ∀ a, (![0, n.val * 128] : Fin 2 → ℕ) a + S256x128.size a ≤ S256x640.size a := by
  intro a; fin_cases a
  · show 0 + 256 ≤ 256; omega
  · show n.val * 128 + 128 ≤ 640; omega

theorem inbW (n : Fin 5) : ∀ a, (![0, n.val * 128] : Fin 2 → ℕ) a + S1x128.size a ≤ S1x640.size a := by
  intro a; fin_cases a
  · show 0 + 1 ≤ 1; omega
  · show n.val * 128 + 128 ≤ 640; omega

theorem slicesY : ∀ n : Fin 5, S256x640.Slices ![0, n.val * 128] S256x128 := by decide

theorem inbB (b : Fin 2) : ∀ a, (![b.val * 128, 0] : Fin 2 → ℕ) a + S128x128.size a ≤ S256x128.size a := by
  intro a; fin_cases a
  · show b.val * 128 + 128 ≤ 256; omega
  · show 0 + 128 ≤ 128; omega

theorem inbZ (b : Fin 2) : ∀ a, (![b.val, 0, 0] : Fin 3 → ℕ) a + S1x8x128.size a ≤ S2x8x128.size a := by
  intro a; fin_cases a
  · show b.val + 1 ≤ 2; omega
  · show 0 + 8 ≤ 8; omega
  · show 0 + 128 ≤ 128; omega

/-- The sixteen rows of half `h` of row group `g`, at tile `j` of the columns. -/
abbrev rX (g : Fin 8) (h : Fin 2) (j : Fin 40) : Rect S256x5120 :=
  Rect.unit (s := S256x5120) ![g.val * 32 + h.val * 16, j.val * 128] S16x128.size (inbX g h j)
/-- Tile `j` of the one row of weights. -/
abbrev rG (j : Fin 40) : Rect S1x5120 := Rect.unit (s := S1x5120) ![0, j.val * 128] S1x128.size (inbG j)
/-- The thirty-two rows of row group `g`, at tile `j` of the columns. -/
abbrev rC (g : Fin 8) (j : Fin 40) : Rect S256x5120 :=
  Rect.unit (s := S256x5120) ![g.val * 32, j.val * 128] S32x128.size (inbC g j)
/-- The rows of row group `g` of the stored scales. -/
abbrev rS (g : Fin 8) : Rect S256x128 := Rect.unit (s := S256x128) ![g.val * 32, 0] S32x128.size (inbS g)
/-- Tile `n` of the product's columns. -/
abbrev rY (n : Fin 5) : Rect S256x640 := Rect.unit (s := S256x640) ![0, n.val * 128] S256x128.size (inbY n)
/-- Tile `n` of the one row of column scales. -/
abbrev rW (n : Fin 5) : Rect S1x640 := Rect.unit (s := S1x640) ![0, n.val * 128] S1x128.size (inbW n)
/-- Half `b` of the stored scales. -/
abbrev rB (b : Fin 2) : Rect S256x128 := Rect.unit (s := S256x128) ![b.val * 128, 0] S128x128.size (inbB b)
/-- Plane `b` of the block of scales. -/
abbrev rZ (b : Fin 2) : Rect S2x8x128 := Rect.unit (s := S2x8x128) ![b.val, 0, 0] S1x8x128.size (inbZ b)

variable {F : FTy → Type} [FloatOps F]
variable (x0 : Vec F S256x5120 .bf16) (x1 : Vec F S1x5120 .bf16) (x2 : Vec F S640x5120 .fp8e4m3) (x3 : Vec F S1x640 .f32)

/-- A tile of the rows, widened. -/
def xf (v : Vec F S16x128 .bf16) : FVec F S16x128 .f32 :=
  extf .f32 (shapeCast S16x128 v shapeCasts_S16x128_S16x128 : FVec F S16x128 .bf16) bitsLt_bf16_f32
/-- A tile of the weights, widened and spread over the rows. -/
def gf (w : Vec F S1x128 .bf16) : FVec F S16x128 .f32 :=
  broadcastTo S16x128 (extf .f32 (shapeCast S1x128 w shapeCasts_S1x128_S1x128 : FVec F S1x128 .bf16) bitsLt_bf16_f32 : FVec F S1x128 .f32) broadcasts_S1x128_S16x128

/-- Rows times weights, one tile. -/
def pf (v : Vec F S16x128 .bf16) (w : Vec F S1x128 .bf16) : FVec F S16x128 .f32 := mulf (xf v) (gf w)
def sq (v : Vec F S16x128 .bf16) : FVec F S16x128 .f32 := mulf (xf v) (xf v)

/-- The squares of the first `n + 1` tiles added up, lane by lane. -/
def ssT (T : Fin 40 → Vec F S16x128 .bf16) : (n : ℕ) → n < 40 → FVec F S16x128 .f32
  | 0, h => sq (T ⟨0, h⟩)
  | n + 1, h => addf (ssT T n (Nat.lt_of_succ_lt h)) (sq (T ⟨n + 1, h⟩))

/-- The largest magnitude of the first `n + 1` tiles of the products, lane by lane. -/
def mxT (T : Fin 40 → Vec F S16x128 .bf16) (G : Fin 40 → Vec F S1x128 .bf16) : (n : ℕ) → n < 40 → FVec F S16x128 .f32
  | 0, h => absf (pf (T ⟨0, h⟩) (G ⟨0, h⟩))
  | n + 1, h => maximumf (mxT T G n (Nat.lt_of_succ_lt h)) (absf (pf (T ⟨n + 1, h⟩) (G ⟨n + 1, h⟩)))

/-- The reciprocal root of a group of rows, from the lane sums of its two halves. -/
def rV (a b : FVec F S16x128 .f32) : FVec F S32x1 .f32 :=
  rsqrt (addf (mulf (shapeCast S32x1 (multiReduction .add [1] S32
      (concatenate S32x128 0 [⟨S16x128, a⟩, ⟨S16x128, b⟩] concatenates_S16x128_S16x128_S32x128_d0 : FVec F S32x128 .f32)
      0x00000000#32 reduces_S32x128_S32 (.inl rfl) rfl : FVec F S32 .f32) shapeCasts_S32_S32x1 : FVec F S32x1 .f32)
    (broadcast S32x1 (Scalar.ofBits .f32 0x394CCCCD#32 : F .f32)))
    (broadcast S32x1 (Scalar.ofBits .f32 0x358637BD#32 : F .f32)))

/-- The value a group of rows reads its exponents from. -/
def vV (a b : FVec F S16x128 .f32) (r : FVec F S32x1 .f32) : FVec F S32x1 .f32 :=
  mulf (mulf (shapeCast S32x1 (multiReduction .maximumf [1] S32
      (concatenate S32x128 0 [⟨S16x128, a⟩, ⟨S16x128, b⟩] concatenates_S16x128_S16x128_S32x128_d0 : FVec F S32x128 .f32)
      0xFF800000#32 reduces_S32x128_S32 (.inl rfl) rfl : FVec F S32 .f32) shapeCasts_S32_S32x1 : FVec F S32x1 .f32) r)
    (broadcast S32x1 (Scalar.ofBits .f32 0x3B124925#32 : F .f32))

/-- The float whose exponent field holds `b`. -/
def fieldV (b : IVec S32x1 32) : FVec F S32x1 .f32 := bitcastToFloat .f32 (shli b (broadcast S32x1 23#32))

/-- One step of the search for the exponent field: raise `b` by `t` unless `v` is below the float of that field. -/
def stepV (v : FVec F S32x1 .f32) (b : IVec S32x1 32) (t : BitVec 32) : IVec S32x1 32 :=
  select (cmpf .olt v (fieldV (addi b (broadcast S32x1 t)))) b (addi b (broadcast S32x1 t))

def searchV (v : FVec F S32x1 .f32) : IVec S32x1 32 :=
  stepV v (stepV v (stepV v (stepV v (stepV v (stepV v (stepV v (stepV v (broadcast S32x1 0#32) 128#32) 64#32) 32#32) 16#32) 8#32) 4#32) 2#32) 1#32

def fixV (b : IVec S32x1 32) : IVec S32x1 32 := select (cmpi .eq b (broadcast S32x1 0#32)) (broadcast S32x1 126#32) b

def biasedV (v : FVec F S32x1 .f32) : IVec S32x1 32 := fixV (searchV v)

def scaleV (b : IVec S32x1 32) : FVec F S32x1 .f32 := fieldV (addi b (broadcast S32x1 1#32))
def invV (b : IVec S32x1 32) : FVec F S32x1 .f32 := fieldV (maxsi (subi (broadcast S32x1 253#32) b) (broadcast S32x1 0#32))

/-- A column spread over the lanes. -/
def spread (v : FVec F S32x1 .f32) : FVec F S32x128 .f32 :=
  broadcastTo S32x128 (shapeCast S32x1 v shapeCasts_S32x1_S32x1 : FVec F S32x1 .f32) broadcasts_S32x1_S32x128

def tX (g : Fin 8) (h : Fin 2) (j : Fin 40) : Vec F S16x128 .bf16 := View.ld x0 (rX g h j)
def tG (j : Fin 40) : Vec F S1x128 .bf16 := View.ld x1 (rG j)

/-- The reciprocal root of row group `g`. -/
def rT (g : Fin 8) : FVec F S32x1 .f32 := rV (ssT (tX x0 g 0) 39 (by decide)) (ssT (tX x0 g 1) 39 (by decide))
/-- The value row group `g` reads its exponents from. -/
def vT (g : Fin 8) : FVec F S32x1 .f32 :=
  vV (mxT (tX x0 g 0) (tG x1) 39 (by decide)) (mxT (tX x0 g 1) (tG x1) 39 (by decide)) (rT x0 g)
def bT (g : Fin 8) : IVec S32x1 32 := biasedV (vT x0 x1 g)

/-- The stores of the first `n` row groups' products, the last first. -/
def pL (n : ℕ) (hn : n ≤ 8) : List (View.Piece (Elt F) S256x5120 .f32) :=
  (downFrom 8 n hn).flatMap fun g => (downFrom 2 2 (le_refl _)).flatMap fun h => (downFrom 40 40 (le_refl _)).map fun j =>
    ⟨rX g h j, (shapeCast S16x128 (pf (tX x0 g h j) (tG x1 j)) shapeCasts_S16x128_S16x128 : FVec F S16x128 .f32)⟩

/-- The stores of the scales, the last first. -/
def sL : List (View.Piece (Elt F) S256x128 .f32) :=
  (downFrom 8 8 (le_refl _)).map fun g =>
    ⟨rS g, (shapeCast S32x128 (spread (scaleV (bT x0 x1 g))) shapeCasts_S32x128_S32x128 : FVec F S32x128 .f32)⟩

/-- One tile of codes from a tile of products and the multipliers. -/
def codeT (p : Vec F S32x128 .f32) (m : FVec F S32x128 .f32) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32)) (mulf p m))) bitsLt_fp8e4m3_f32

/-- The multipliers of row group `g`. -/
def mT (g : Fin 8) : FVec F S32x128 .f32 := spread (mulf (rT x0 g) (invV (bT x0 x1 g)))

/-- The stores of the codes, the last first; the products are read back from what the groups so far stored. -/
def cL (rd : (L : List (View.Piece (Elt F) S256x5120 .f32)) → (r : Rect S256x5120) → r.shape.Idx → Elt F .f32) :
    List (View.Piece (Elt F) S256x5120 .fp8e4m3) :=
  (downFrom 8 8 (le_refl _)).flatMap fun g => (downFrom 40 40 (le_refl _)).map fun j =>
    ⟨rC g j, codeT (rd (pL x0 x1 (g.val + 1) g.isLt) (rC g j)) (mT x0 x1 g)⟩

/-- The product of the codes with the weights, before the scales. -/
def accT (c : Vec F S256x5120 .fp8e4m3) : FVec F S256x640 .f32 :=
  matmul dot_S256x5120_S640x5120_S256x640_1_1_0_0_n_n none
    (shapeCast S256x5120 c shapeCasts_S256x5120_S256x5120 : FVec F S256x5120 .fp8e4m3) x2
    (constant S256x640 .f32 0x00000000#32 : FVec F S256x640 .f32)

/-- The stores of the results, the last first. -/
def yL (c : Vec F S256x5120 .fp8e4m3) (s : Vec F S256x128 .f32) : List (View.Piece (Elt F) S256x640 .bf16) :=
  (downFrom 5 5 (le_refl _)).map fun n =>
    ⟨rY n, (truncf .bf16 (mulf (mulf (extractStridedSlice S256x128 ![0, n.val * 128] (accT x2 c) (slicesY n) : FVec F S256x128 .f32) s)
      (broadcastTo S256x128 (shapeCast S1x128 (View.ld x3 (rW n)) shapeCasts_S1x128_S1x128 : FVec F S1x128 .f32) broadcasts_S1x128_S256x128)
      : FVec F S256x128 .f32) bitsLt_bf16_f32 : FVec F S256x128 .bf16)⟩

/-- One plane of scales from half of the stored ones. -/
def planeT (s : Vec F S128x128 .f32) : FVec F S1x8x128 .f32 :=
  shapeCast S1x8x128 (extractStridedSlice S8x128 ![0, 0]
    (transpose S128x128 [1, 0] s transposes_S128x128_p1_0_S128x128 : FVec F S128x128 .f32) slices_S128x128_o0_0_S8x128 : FVec F S8x128 .f32)
    shapeCasts_S8x128_S1x8x128

/-- The stores of the scales' planes, the last first. -/
def zL (s : (b : Fin 2) → Vec F S128x128 .f32) : List (View.Piece (Elt F) S2x8x128 .f32) :=
  (downFrom 2 2 (le_refl _)).map fun b => ⟨rZ b, planeT (s b)⟩

end Cert.Hand.Kn

end
-- ==== Proof.RunB.lean ====
/- The run of the kernel's body over its blocks: what the body leaves in each result's buffer is the list of stores that
   Body.lean writes down. -/
module

public import proofs.«01_k».proof.Proof.Gen.KernelIdeal.Frame.Runs
public import proofs.«01_k».proof.Proof.Body

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Hand.Kn

/-- The stores of the codes, the products read back from the products' buffer. -/
def cB (v8 : View sig .tc .vmem S256x5120 .f32) (x0 : Vec F S256x5120 .bf16) (x1 : Vec F S1x5120 .bf16) : List (View.Piece (Elt F) S256x5120 .fp8e4m3) :=
  cL x0 x1 fun L r => v8.readCov L r.toLoadRect

/-- The stores of the results, the codes and the scales read back from their buffers. -/
def yB (v6 : View sig .tc .vmem S256x5120 .fp8e4m3) (v8 : View sig .tc .vmem S256x5120 .f32) (v9 : View sig .tc .vmem S256x128 .f32)
    (x0 : Vec F S256x5120 .bf16) (x1 : Vec F S1x5120 .bf16) (x2 : Vec F S640x5120 .fp8e4m3) (x3 : Vec F S1x640 .f32) :
    List (View.Piece (Elt F) S256x640 .bf16) :=
  yL (View.ld x2 (Rect.unit (s := S640x5120) ![0, 0] S640x5120.size inb_S640x5120_S640x5120_0_0)) x3
    (v6.readCov (cB v8 x0 x1) (Rect.unit (s := S256x5120) ![0, 0] S256x5120.size inb_S256x5120_S256x5120_0_0).toLoadRect)
    (v9.readCov (sL x0 x1) (Rect.unit (s := S256x128) ![0, 0] S256x128.size inb_S256x128_S256x128_0_0).toLoadRect)

/-- The stores of the scales' planes, the scales read back from their buffer. -/
def zB (v9 : View sig .tc .vmem S256x128 .f32) (x0 : Vec F S256x5120 .bf16) (x1 : Vec F S1x5120 .bf16) :
    List (View.Piece (Elt F) S2x8x128 .f32) :=
  zL fun b => v9.readCov (sL x0 x1) (rB b).toLoadRect

-- (the run's proof term is large: checking it walks past the default budget)
set_option maxHeartbeats 19752000 in
/-- The body's triple: on whole buffers, the inputs' at their contents and the others at anything, the body ends with the
    inputs as they were and in each result's buffer the stores of Body.lean over some contents. -/
theorem bodyRun (c : Dev nD) (i : grid0.Coords) (arg1 : Memref sig .tc .vmem S256x5120 .bf16) (harg1 : arg1.IsWhole) (arg2 : Memref sig .tc .vmem S1x5120 .bf16) (harg2 : arg2.IsWhole) (arg3 : Memref sig .tc .vmem S640x5120 .fp8e4m3) (harg3 : arg3.IsWhole) (arg4 : Memref sig .tc .vmem S1x640 .f32) (harg4 : arg4.IsWhole) (arg5 : Memref sig .tc .vmem S256x640 .bf16) (harg5 : arg5.IsWhole) (arg6 : Memref sig .tc .vmem S256x5120 .fp8e4m3) (harg6 : arg6.IsWhole) (arg7 : Memref sig .tc .vmem S2x8x128 .f32) (harg7 : arg7.IsWhole) (arg8 : Memref sig .tc .vmem S256x5120 .f32) (harg8 : arg8.IsWhole) (arg9 : Memref sig .tc .vmem S256x128 .f32) (harg9 : arg9.IsWhole)
    (x0 : Vec F S256x5120 .bf16) (x1 : Vec F S1x5120 .bf16) (x2 : Vec F S640x5120 .fp8e4m3) (x3 : Vec F S1x640 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, ∃ L, ⌜L = yB arg6.view arg8.view arg9.view x0 x1 x2 x3⌝ ∗ arg5.view.loc (c : Thread nD τ) ↦[arg5.view.set]{fullShare} arg5.view.writes (Elt F) f L)
                ∗ (∃ f, ∃ L, ⌜L = cB arg8.view x0 x1⌝ ∗ arg6.view.loc (c : Thread nD τ) ↦[arg6.view.set]{fullShare} arg6.view.writes (Elt F) f L)
                ∗ (∃ f, ∃ L, ⌜L = zB arg9.view x0 x1⌝ ∗ arg7.view.loc (c : Thread nD τ) ↦[arg7.view.set]{fullShare} arg7.view.writes (Elt F) f L)
                ∗ (∃ d, owns (c : Thread nD τ) arg8 fullShare d) ∗ (∃ d, owns (c : Thread nD τ) arg9 fullShare d)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9) K := by
    simp only [cc0_rmsnorm_fp8_linear_eq_skeleton]; unfold cc0_rmsnorm_fp8_linear_skel
    simp only [k0_part333_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part334_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part335_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part336_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part337_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part338_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := hf0; obtain rfl := hf1; obtain rfl := hf2; obtain rfl := hf3
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _, _; isplitr; swap; · iexact H4
      ipureintro; sl_kernel_rfl
    isplitl [H5]
    · iexists _, _; isplitr; swap; · iexact H5
      ipureintro; sl_kernel_rfl
    isplitl [H6]
    · iexists _, _; isplitr; swap; · iexact H6
      ipureintro; sl_kernel_rfl
    isplitl [HS0]
    · iexists _, _; isplitr; swap; · iexact HS0
      ipureintro; rfl
    iexists _, _; isplitr; swap; · iexact HS1
    ipureintro; rfl

end Cert.KernelIdeal.Gen

end
-- ==== Proof.Exponent.lean ====
/- The exponent of a nonnegative extended real, as the kernel searches for it bit by bit and as the
   reference takes it from a logarithm: both give the same power of two. -/
module

public import Idealize.ShloMosaic.PureOps
public import Idealize.ShloMosaic.PureOps.Ideal
public import Idealize.ShloMosaic.PureOps.IdealRules
public import Idealize.ShloMosaic.Adequacy
public import Idealize.ShloMosaic.Init

@[expose] public section

noncomputable section

namespace Cert.Hand

open Idealize.ShloMosaic

/-- The float whose bits are `b` shifted into the exponent field. -/
def fieldVal (b : BitVec 32) : EReal := Ideal.ofBits .f32 (b <<< (23 : ℕ))

theorem fieldVal_zero : fieldVal 0#32 = 0 := by
  simp [fieldVal, Ideal.ofBits, Ideal.ieee]

/-- The pieces of a word holding only an exponent field. -/
theorem field_parts : ∀ b : Fin 256,
    ((BitVec.ofNat 32 b.val <<< (23 : ℕ)).extractLsb' 31 1 == 1#1) = false
    ∧ ((BitVec.ofNat 32 b.val <<< (23 : ℕ)).extractLsb' 23 8).toNat = b.val
    ∧ ((BitVec.ofNat 32 b.val <<< (23 : ℕ)).extractLsb' 0 23).toNat = 0 := by
  decide +kernel

theorem fieldVal_pos (b : ℕ) (h0 : 0 < b) (h : b < 255) :
    fieldVal (BitVec.ofNat 32 b) = (((2 : ℝ) ^ ((b : ℤ) - 127) : ℝ) : EReal) := by
  obtain ⟨hs, he, hf⟩ := field_parts ⟨b, by omega⟩
  simp only at hs he hf
  have hb : b ≠ 255 := by omega
  have hb0 : b ≠ 0 := by omega
  unfold fieldVal Ideal.ofBits Ideal.ieee
  simp only [hs, he, hf]
  norm_num [hb, hb0]
  have : ((b : ℤ) - 127 : ℤ) = 23 + ((b : ℤ) - 127 - 23) := by ring
  rw [this, zpow_add₀ (by norm_num : (2 : ℝ) ≠ 0)]
  norm_num

theorem fieldVal_top : fieldVal 255#32 = ⊤ := by
  obtain ⟨hs, he, hf⟩ := field_parts ⟨255, by omega⟩
  simp only at hs he hf
  unfold fieldVal Ideal.ofBits Ideal.ieee
  rw [show (255#32) = BitVec.ofNat 32 255 from rfl]
  simp [hs, he, hf]

/-- The field's values as a function of a number, `⊤` from 255 on. -/
def pow (b : ℕ) : EReal := if b = 0 then 0 else if b < 255 then (((2 : ℝ) ^ ((b : ℤ) - 127) : ℝ) : EReal) else ⊤

theorem fieldVal_eq_pow (b : ℕ) (h : b < 256) : fieldVal (BitVec.ofNat 32 b) = pow b := by
  unfold pow
  split_ifs with h0 h1
  · subst h0; exact fieldVal_zero
  · exact fieldVal_pos b (by omega) h1
  · obtain rfl : b = 255 := by omega
    exact fieldVal_top

/-- One step of the kernel's search. -/
def step (v : EReal) (b t : BitVec 32) : BitVec 32 :=
  if v < fieldVal (b + t) then b else b + t

/-- The whole search. -/
def search (v : EReal) : BitVec 32 :=
  step v (step v (step v (step v (step v (step v (step v (step v 0#32 128#32) 64#32) 32#32) 16#32) 8#32) 4#32) 2#32) 1#32

theorem step_spec (v : EReal) (w : BitVec 32) (b t : ℕ) (hw : w = BitVec.ofNat 32 b) (h : b + t < 256)
    (lo : pow b ≤ v) (hi : v < pow (b + 2 * t)) :
    ∃ b', step v w (BitVec.ofNat 32 t) = BitVec.ofNat 32 b' ∧ b' ≤ b + t ∧ pow b' ≤ v ∧ v < pow (b' + t) := by
  subst hw
  have e : BitVec.ofNat 32 b + BitVec.ofNat 32 t = BitVec.ofNat 32 (b + t) := by rw [BitVec.ofNat_add]
  unfold step
  rw [e, fieldVal_eq_pow _ h]
  split_ifs with c
  · exact ⟨b, rfl, by omega, lo, c⟩
  · exact ⟨b + t, rfl, le_rfl, not_lt.1 c, by rw [show b + t + t = b + 2 * t by ring]; exact hi⟩

theorem search_spec (v : EReal) (lo : 0 ≤ v) (hi : v < ⊤) :
    ∃ b : ℕ, search v = BitVec.ofNat 32 b ∧ b ≤ 255 ∧ pow b ≤ v ∧ v < pow (b + 1) := by
  obtain ⟨b1, e1, l1, p1, q1⟩ := step_spec v 0#32 0 128 rfl (by omega) (by simpa [pow] using lo) (by simpa [pow] using hi)
  obtain ⟨b2, e2, l2, p2, q2⟩ := step_spec v _ b1 64 e1 (by omega) p1 q1
  obtain ⟨b3, e3, l3, p3, q3⟩ := step_spec v _ b2 32 e2 (by omega) p2 q2
  obtain ⟨b4, e4, l4, p4, q4⟩ := step_spec v _ b3 16 e3 (by omega) p3 q3
  obtain ⟨b5, e5, l5, p5, q5⟩ := step_spec v _ b4 8 e4 (by omega) p4 q4
  obtain ⟨b6, e6, l6, p6, q6⟩ := step_spec v _ b5 4 e5 (by omega) p5 q5
  obtain ⟨b7, e7, l7, p7, q7⟩ := step_spec v _ b6 2 e6 (by omega) p6 q6
  obtain ⟨b8, e8, l8, p8, q8⟩ := step_spec v _ b7 1 e7 (by omega) p7 q7
  exact ⟨b8, e8, by omega, p8, q8⟩

/-- The field with zero replaced by 126. -/
def biased (v : EReal) : BitVec 32 := if search v = 0#32 then 126#32 else search v

/-- The kernel's scale and its inverse. -/
def kScale (v : EReal) : EReal := fieldVal (biased v + 1#32)
def kInv (v : EReal) : EReal :=
  fieldVal (if (0#32).slt (253#32 - biased v) then 253#32 - biased v else 0#32)

/-- The smallest normal float. -/
def tiny : EReal := Ideal.ofBits .f32 0x00800000#32

theorem tiny_eq : tiny = pow 1 := by
  rw [← fieldVal_eq_pow 1 (by omega)]; rfl

/-- The reference's exponent. -/
def rExp (v : EReal) : EReal :=
  if v < tiny then 0 else Ideal.liftRound Int.floor (Ideal.log v * (((Real.log 2)⁻¹ : ℝ) : EReal)) + 1

theorem scales_eq (v : EReal) (lo : 0 ≤ v) (hi : v < pow 253) :
    kScale v = Ideal.exp2 (rExp v) ∧ kInv v = Ideal.exp2 (0 - rExp v) := by
  have hpos : ∀ b : ℕ, 0 < b → b < 255 → pow b = (((2 : ℝ) ^ ((b : ℤ) - 127) : ℝ) : EReal) := by
    intro b h h'; unfold pow; rw [if_neg (by omega), if_pos h']
  obtain ⟨b, e, hb, pl, pu⟩ := search_spec v lo (lt_of_lt_of_le hi le_top)
  have hb2 : b < 253 := by
    by_contra hc
    have : pow 253 ≤ pow b := by
      rw [hpos 253 (by omega) (by omega)]
      unfold pow
      rw [if_neg (by omega)]
      split_ifs
      · rw [EReal.coe_le_coe_iff]
        exact zpow_le_zpow_right₀ (by norm_num) (by omega)
      · exact le_top
    exact absurd (lt_of_le_of_lt (this.trans pl) hi) (lt_irrefl _)
  rcases Nat.eq_zero_or_pos b with rfl | hp
  · have hz : search v = 0#32 := e
    have hbi : biased v = 126#32 := by unfold biased; rw [if_pos hz]
    have hr : rExp v = 0 := by unfold rExp; rw [tiny_eq, if_pos pu]
    have one : Ideal.exp2 0 = 1 := by
      rw [← EReal.coe_zero, Ideal.exp2_coe]; simp
    have hf : fieldVal 127#32 = 1 := by
      rw [show 127#32 = BitVec.ofNat 32 127 from rfl, fieldVal_pos 127 (by omega) (by omega)]; norm_num
    unfold kScale kInv
    rw [hbi, hr, sub_zero, one]
    exact ⟨hf, hf⟩
  · have hne : BitVec.ofNat 32 b ≠ 0#32 := by
      intro hc
      have := congrArg BitVec.toNat hc
      simp [Nat.mod_eq_of_lt (show b < 2 ^ 32 by omega)] at this
      omega
    have hbi : biased v = BitVec.ofNat 32 b := by unfold biased; rw [e, if_neg hne]
    have hpl := pl
    rw [hpos b hp (by omega)] at hpl
    have hpu := pu
    rw [hpos (b + 1) (by omega) (by omega)] at hpu
    have hnt : ¬ v < tiny := by
      rw [tiny_eq, hpos 1 (by omega) (by omega), not_lt]
      refine le_trans ?_ hpl
      rw [EReal.coe_le_coe_iff]
      exact zpow_le_zpow_right₀ (by norm_num) (by push_cast; omega)
    lift v to ℝ using ⟨(lt_of_lt_of_le hi le_top).ne, (lt_of_lt_of_le EReal.bot_lt_zero lo).ne'⟩ with r
    rw [EReal.coe_le_coe_iff] at hpl
    rw [EReal.coe_lt_coe_iff] at hpu
    have hr0 : 0 < r := lt_of_lt_of_le (by positivity) hpl
    have hfl : ⌊Real.log r * (Real.log 2)⁻¹⌋ = (b : ℤ) - 127 := by
      have h2 : (0 : ℝ) < Real.log 2 := Real.log_pos (by norm_num)
      rw [← div_eq_mul_inv, Int.floor_eq_iff]
      constructor
      · rw [le_div_iff₀ h2, ← Real.log_zpow]
        exact Real.log_le_log (by positivity) hpl
      · have : ((((b : ℤ) - 127 : ℤ) : ℝ) + 1) = ((((b + 1 : ℕ) : ℤ) - 127 : ℤ) : ℝ) := by push_cast; ring
        rw [this, div_lt_iff₀ h2, ← Real.log_zpow]
        exact Real.log_lt_log hr0 hpu
    have hre : rExp (r : EReal) = ((((b : ℤ) - 126 : ℤ) : ℝ) : EReal) := by
      unfold rExp
      rw [if_neg hnt, Ideal.log_coe, if_neg (not_le.2 hr0), ← EReal.coe_mul, Ideal.liftRound_coe, hfl,
        ← EReal.coe_one, ← EReal.coe_add]
      congr 1; push_cast; ring
    have h1 : BitVec.ofNat 32 b + 1#32 = BitVec.ofNat 32 (b + 1) := by rw [BitVec.ofNat_add]
    have h2 : 253#32 - BitVec.ofNat 32 b = BitVec.ofNat 32 (253 - b) := by
      have : ∀ b : Fin 253, 253#32 - BitVec.ofNat 32 b.val = BitVec.ofNat 32 (253 - b.val) := by decide +kernel
      exact this ⟨b, hb2⟩
    have h3 : (0#32).slt (BitVec.ofNat 32 (253 - b)) = true := by
      have : ∀ b : Fin 253, (0#32).slt (BitVec.ofNat 32 (253 - b.val)) = true := by decide +kernel
      exact this ⟨b, hb2⟩
    unfold kScale kInv
    rw [hbi, h1, h2, h3, hre, fieldVal_pos (b + 1) (by omega) (by omega), ← EReal.coe_zero, ← EReal.coe_sub, Ideal.exp2_coe,
      Ideal.exp2_coe]
    rw [if_pos rfl, fieldVal_pos (253 - b) (by omega) (by omega)]
    constructor
    · congr 1
      show _ = (2 : ℝ) ^ ((((b : ℤ) - 126 : ℤ) : ℝ))
      rw [Real.rpow_intCast]; congr 1; push_cast; ring
    · congr 1
      have : (0 - (((b : ℤ) - 126 : ℤ) : ℝ)) = (((126 : ℤ) - b : ℤ) : ℝ) := by push_cast; ring
      rw [this]
      show _ = (2 : ℝ) ^ ((((126 : ℤ) - b : ℤ) : ℝ))
      rw [Real.rpow_intCast]; congr 1; rw [Nat.cast_sub (by omega)]; push_cast; ring

end Cert.Hand

end
-- ==== Proof.Row.lean ====
/- One row (a token) at the extended reals: the kernel's row maximum, scaled after the maximum, is the
   reference's, scaled before it; and with a finite gamma the scaled row maximum is below the range where
   the kernel's inverse scale flushes to zero. -/
module

public import proofs.«01_k».proof.Proof.Exponent

@[expose] public section

noncomputable section

namespace Cert.Hand

open Idealize.ShloMosaic

/-- The absolute value. -/
def ab (x : EReal) : EReal := max x (-x)

/-- The stabiliser under the square root. -/
def eps : EReal := Ideal.ofBits .f32 0x358637BD#32

/-- A positive normal float as a real, from the parts of its word. -/
theorem ofBits_normal (b : BitVec 32) (x f : ℕ) (hs : (b.extractLsb' 31 1 == 1#1) = false)
    (hx : (b.extractLsb' 23 8).toNat = x) (hf : (b.extractLsb' 0 23).toNat = f) (h0 : x ≠ 0) (h1 : x ≠ 255) :
    Ideal.ofBits .f32 b = (((8388608 + f) * (2 : ℝ) ^ ((x : ℤ) - 150) : ℝ) : EReal) := by
  unfold Ideal.ofBits Ideal.ieee
  simp only [hs, hx, hf]
  norm_num [h0, h1]
  rw [show (x : ℤ) - 127 - 23 = (x : ℤ) - 150 by ring]

theorem eps_pos : ∃ e : ℝ, 0 < e ∧ eps = (e : EReal) :=
  ⟨_, by positivity, ofBits_normal _ 107 407485 (by decide) (by decide) (by decide) (by decide) (by decide)⟩

/-- The reciprocal of the largest code. -/
def c448 : EReal := Ideal.ofBits .f32 0x3B124925#32

theorem c448_eq : ∃ q : ℝ, 0 < q ∧ q * 72 ≤ 1 / 6 ∧ c448 = (q : EReal) :=
  ⟨_, by positivity, by norm_num,
    ofBits_normal _ 118 1198373 (by decide) (by decide) (by decide) (by decide) (by decide)⟩

/-- The largest gamma. -/
def gmax : EReal := Ideal.ofBits .f32 0x7F7F0000#32

theorem gmax_eq : ∃ q : ℝ, 0 ≤ q ∧ q ≤ 2 ^ 128 ∧ gmax = (q : EReal) :=
  ⟨_, by positivity, by norm_num,
    ofBits_normal _ 254 8323072 (by decide) (by decide) (by decide) (by decide) (by decide)⟩

/-- The reciprocal of the number of columns, as a float. -/
def invD : EReal := Ideal.ofBits .f32 0x394CCCCD#32

theorem invD_eq : ∃ d : ℝ, 0 < d ∧ 1 ≤ 5184 * d ∧ invD = (d : EReal) :=
  ⟨_, by positivity, by norm_num,
    ofBits_normal _ 114 5033165 (by decide) (by decide) (by decide) (by decide) (by decide)⟩

variable {n : ℕ}

/-- The reciprocal root mean square of a row. -/
def rr (X : Fin n → EReal) : EReal :=
  Ideal.rsqrt ((∑ k, X k * X k) * invD + eps)

theorem coe_sum (f : Fin n → ℝ) : (((∑ k, f k : ℝ)) : EReal) = ∑ k, (f k : EReal) := by
  induction n with
  | zero => simp
  | succ n ih => rw [Fin.sum_univ_succ, Fin.sum_univ_succ, EReal.coe_add, ih]

theorem sq_nonneg' (x : EReal) : 0 ≤ x * x := by
  induction x with
  | bot => simp
  | top => simp
  | coe r => rw [← EReal.coe_mul]; exact EReal.coe_nonneg.2 (mul_self_nonneg r)

/-- The reciprocal root mean square is a nonnegative real, and scales the row's elements to at most 72. -/
theorem rr_spec (X : Fin n → EReal) :
    ∃ ρ : ℝ, 0 ≤ ρ ∧ rr X = (ρ : EReal) ∧ ∀ k, ∃ t : ℝ, X k * (ρ : EReal) = (t : EReal) ∧ |t| ≤ 72 := by
  obtain ⟨e, he, hee⟩ := eps_pos
  obtain ⟨d, hd, hd2, hdd⟩ := invD_eq
  by_cases hx : ∃ k, X k = ⊤ ∨ X k = ⊥
  · obtain ⟨k, hk⟩ := hx
    refine ⟨0, le_rfl, ?_, fun k => ⟨0, by simp, by norm_num⟩⟩
    have h1 : X k * X k = ⊤ := by rcases hk with h | h <;> simp [h]
    have h2 : ∑ k, X k * X k = ⊤ := by
      rw [eq_top_iff, ← h1]
      exact Finset.single_le_sum (f := fun k => X k * X k) (fun i _ => sq_nonneg' _) (Finset.mem_univ k)
    unfold rr
    rw [h2, hdd, EReal.top_mul_coe_of_pos hd, hee, EReal.top_add_coe, Ideal.rsqrt_top, EReal.coe_zero]
  · have hr : ∀ k, ∃ r : ℝ, X k = (r : EReal) := fun k => by
      have : X k ≠ ⊤ ∧ X k ≠ ⊥ := by
        constructor
        · exact fun h => hx ⟨k, Or.inl h⟩
        · exact fun h => hx ⟨k, Or.inr h⟩
      exact ⟨(X k).toReal, (EReal.coe_toReal this.1 this.2).symm⟩
    choose x hxx using hr
    have hs : ∑ k, X k * X k = ((∑ k, x k * x k : ℝ) : EReal) := by
      rw [coe_sum]; refine Finset.sum_congr rfl fun k _ => ?_; rw [hxx, EReal.coe_mul]
    have h0 : 0 ≤ ∑ k, x k * x k := Finset.sum_nonneg fun k _ => mul_self_nonneg _
    have hm : 0 < (∑ k, x k * x k) * d + e := by positivity
    refine ⟨(Real.sqrt ((∑ k, x k * x k) * d + e))⁻¹, by positivity, ?_, fun k => ?_⟩
    · unfold rr
      rw [hs, hee, hdd, ← EReal.coe_mul, ← EReal.coe_add, Ideal.rsqrt_coe, if_neg (not_lt.2 hm.le), if_neg hm.ne']
    · refine ⟨x k * (Real.sqrt ((∑ k, x k * x k) * d + e))⁻¹, by rw [hxx, EReal.coe_mul], ?_⟩
      have hsq : 0 < Real.sqrt ((∑ k, x k * x k) * d + e) := Real.sqrt_pos.2 hm
      rw [abs_mul, abs_of_pos (inv_pos.2 hsq), ← div_eq_mul_inv, div_le_iff₀ hsq]
      refine abs_le_of_sq_le_sq ?_ (by positivity)
      rw [mul_pow, Real.sq_sqrt hm.le]
      have : x k * x k ≤ ∑ k, x k * x k :=
        Finset.single_le_sum (f := fun k => x k * x k) (fun i _ => mul_self_nonneg _) (Finset.mem_univ k)
      have h3 : (∑ k, x k * x k) * 1 ≤ (∑ k, x k * x k) * (5184 * d) := mul_le_mul_of_nonneg_left hd2 h0
      nlinarith

theorem ab_mul_nonneg (x : EReal) (ρ : ℝ) (h : 0 ≤ ρ) : ab (x * (ρ : EReal)) = ab x * (ρ : EReal) := by
  have hm : Monotone fun t : EReal => t * (ρ : EReal) := fun a b hab =>
    mul_le_mul_of_nonneg_right hab (EReal.coe_nonneg.2 h)
  unfold ab
  rw [← EReal.neg_mul]
  exact (hm.map_max).symm

theorem ab_nonneg (x : EReal) : 0 ≤ ab x := by
  unfold ab
  rcases le_total 0 x with h | h
  · exact le_max_of_le_left h
  · exact le_max_of_le_right (EReal.neg_nonneg.2 h)

/-- The row maximum scaled by a nonnegative real. -/
theorem sup_mul [NeZero n] (f : Fin n → EReal) (hf : ∀ k, 0 ≤ f k) (ρ : ℝ) (h : 0 ≤ ρ) :
    Finset.univ.fold max ⊥ f * (ρ : EReal) = Finset.univ.fold max ⊥ fun k => f k * (ρ : EReal) := by
  have hm : Monotone fun t : EReal => t * (ρ : EReal) := fun a b hab =>
    mul_le_mul_of_nonneg_right hab (EReal.coe_nonneg.2 h)
  change Finset.univ.sup f * (ρ : EReal) = Finset.univ.sup fun k => f k * (ρ : EReal)
  have hne : (Finset.univ : Finset (Fin n)).Nonempty := ⟨0, Finset.mem_univ _⟩
  rw [← Finset.sup'_eq_sup hne, ← Finset.sup'_eq_sup hne]
  exact Finset.comp_sup'_eq_sup'_comp hne (fun t : EReal => t * (ρ : EReal)) fun a b => hm.map_max

/-- The kernel's row maximum is the reference's. -/
theorem amax_eq [NeZero n] (X G : Fin n → EReal) :
    Finset.univ.fold max ⊥ (fun k => ab (X k * G k)) * rr X
      = Finset.univ.fold max ⊥ fun k => ab (X k * rr X * G k) := by
  obtain ⟨ρ, h0, he, -⟩ := rr_spec X
  rw [he, sup_mul _ (fun k => ab_nonneg _) ρ h0]
  congr 1; funext k
  rw [← ab_mul_nonneg _ ρ h0, mul_right_comm]

/-- The scaled row maximum. -/
def vv (X G : Fin n → EReal) : EReal :=
  (Finset.univ.fold max ⊥ fun k => ab (X k * rr X * G k)) * c448

theorem vv_nonneg [NeZero n] (X G : Fin n → EReal) : 0 ≤ vv X G := by
  obtain ⟨q, hq, -, hc⟩ := c448_eq
  unfold vv
  refine mul_nonneg ?_ (by rw [hc]; exact EReal.coe_nonneg.2 hq.le)
  exact (ab_nonneg (X 0 * rr X * G 0)).trans
    (Finset.le_sup (f := fun k => ab (X k * rr X * G k)) (Finset.mem_univ 0))

theorem vv_lt [NeZero n] (X G : Fin n → EReal) (hG : ∀ k, ab (G k) ≤ gmax) : vv X G < pow 253 := by
  obtain ⟨q, hq, hq2, hc⟩ := c448_eq
  obtain ⟨B, hB, hB2, hg⟩ := gmax_eq
  obtain ⟨ρ, h0, he, ht⟩ := rr_spec X
  have hle : (Finset.univ.fold max ⊥ fun k => ab (X k * rr X * G k)) ≤ ((72 * B : ℝ) : EReal) := by
    change (Finset.univ.sup fun k => ab (X k * rr X * G k)) ≤ _
    refine Finset.sup_le fun k _ => ?_
    obtain ⟨t, hte, htb⟩ := ht k
    have hGk := hG k
    rw [hg] at hGk
    have g1 : G k ≤ (B : EReal) := (le_max_left _ _).trans hGk
    have g2 : -(G k) ≤ (B : EReal) := (le_max_right _ _).trans hGk
    have hlt : G k ≠ ⊤ := (lt_of_le_of_lt g1 (EReal.coe_lt_top B)).ne
    have hgt : G k ≠ ⊥ := by
      intro h; rw [h] at g2; exact absurd (lt_of_le_of_lt g2 (EReal.coe_lt_top B)) (by simp)
    rw [he, hte]
    lift G k to ℝ using ⟨hlt, hgt⟩ with g
    rw [← EReal.coe_neg, EReal.coe_le_coe_iff] at g2
    rw [EReal.coe_le_coe_iff] at g1
    have hab : |g| ≤ B := abs_le.2 ⟨by linarith, g1⟩
    have hm : |t * g| ≤ 72 * B := by
      rw [abs_mul]; exact mul_le_mul htb hab (abs_nonneg _) (by norm_num)
    unfold ab
    rw [← EReal.coe_mul, ← EReal.coe_neg]
    refine max_le ?_ ?_
    · exact EReal.coe_le_coe_iff.2 ((le_abs_self _).trans hm)
    · exact EReal.coe_le_coe_iff.2 ((neg_le_abs _).trans hm)
  have h1 : vv X G ≤ ((72 * B * q : ℝ) : EReal) := by
    unfold vv
    rw [hc, EReal.coe_mul]
    exact mul_le_mul_of_nonneg_right hle (EReal.coe_nonneg.2 hq.le)
  refine lt_of_le_of_lt h1 ?_
  unfold pow
  rw [if_neg (by norm_num), if_pos (by norm_num), EReal.coe_lt_coe_iff]
  have h2 : 72 * B * q ≤ 2 ^ 128 * (1 / 6) := by nlinarith
  refine lt_of_le_of_lt h2 ?_
  norm_num

end Cert.Hand

end
-- ==== Proof.Tiles.lean ====
/- A row read tile by tile: the running reductions over the column tiles are the reductions over the whole row. -/
module

public import proofs.«01_k».proof.Proof.Body
public import proofs.«01_k».proof.Proof.Row
public import Idealize.ShloMosaic.Lib.Pointwise
public import Idealize.ShloMosaic.Lib.Pipeline.Value

@[expose] public section

noncomputable section

namespace Cert.Hand.Kn

open Idealize.ShloMosaic Cert.KernelIdeal Cert.KernelIdeal.Gen

/-- Column `l` of tile `j`. -/
def col (j : Fin 40) (l : Fin 128) : Fin 5120 := ⟨j.val * 128 + l.val, by omega⟩

theorem exists_col (k : Fin 5120) : ∃ j l, col j l = k :=
  ⟨⟨k.val / 128, by omega⟩, ⟨k.val % 128, by omega⟩, Fin.ext (by show k.val / 128 * 128 + k.val % 128 = k.val; omega)⟩

theorem sum_cols (f : Fin 5120 → EReal) : ∑ k, f k = ∑ l, ∑ j, f (col j l) := by
  rw [Finset.sum_comm, ← Fintype.sum_prod_type' (f := fun j l => f (col j l))]
  refine (Fintype.sum_equiv (finProdFinEquiv (m := 40) (n := 128)) _ _ fun x => ?_).symm
  congr 1
  apply Fin.ext
  show x.1.val * 128 + x.2.val = x.2.val + 128 * x.1.val
  omega

theorem sup_cols (f : Fin 5120 → EReal) :
    (Finset.univ : Finset (Fin 128)).sup (fun l => (Finset.univ : Finset (Fin 40)).sup fun j => f (col j l)) = Finset.univ.sup f := by
  refine le_antisymm (Finset.sup_le fun l _ => Finset.sup_le fun j _ => Finset.le_sup (Finset.mem_univ _)) (Finset.sup_le fun k _ => ?_)
  obtain ⟨j, l, rfl⟩ := exists_col k
  exact (Finset.le_sup (f := fun j => f (col j l)) (Finset.mem_univ j)).trans
    (Finset.le_sup (f := fun l => (Finset.univ : Finset (Fin 40)).sup fun j => f (col j l)) (Finset.mem_univ l))

theorem fold_max_eq_sup {n : ℕ} (f : Fin n → EReal) : (Finset.univ : Finset (Fin n)).fold max ⊥ f = Finset.univ.sup f := rfl

variable (T : Fin 40 → Vec Ideal S16x128 .bf16) (G : Fin 40 → Vec Ideal S1x128 .bf16)

theorem sq_apply (v : Vec Ideal S16x128 .bf16) (r : Fin 16) (l : Fin 128) :
    sq (F := Ideal) v (ix2 r l) = v (ix2 r l) * v (ix2 r l) := by
  unfold sq xf
  rw [shapeCast_self]
  rfl

theorem pf_apply (v : Vec Ideal S16x128 .bf16) (w : Vec Ideal S1x128 .bf16) (r : Fin 16) (l : Fin 128) :
    pf (F := Ideal) v w (ix2 r l) = v (ix2 r l) * w (ix2 0 l) := by
  pointwise [pf, xf, gf]

theorem ssT_apply (r : Fin 16) (l : Fin 128) : ∀ (n : ℕ) (h : n < 40),
    ssT (F := Ideal) T n h (ix2 r l) = ∑ j : Fin (n + 1), T ⟨j.val, by omega⟩ (ix2 r l) * T ⟨j.val, by omega⟩ (ix2 r l)
  | 0, h => by rw [Fin.sum_univ_one]; exact sq_apply _ _ _
  | n + 1, h => by
    rw [Fin.sum_univ_castSucc]
    show ssT (F := Ideal) T n _ (ix2 r l) + sq (F := Ideal) (T ⟨n + 1, h⟩) (ix2 r l) = _
    rw [ssT_apply r l n, sq_apply]
    rfl

theorem mxT_apply (r : Fin 16) (l : Fin 128) : ∀ (n : ℕ) (h : n < 40),
    mxT (F := Ideal) T G n h (ix2 r l)
      = (Finset.univ : Finset (Fin (n + 1))).sup fun j => ab (T ⟨j.val, by omega⟩ (ix2 r l) * G ⟨j.val, by omega⟩ (ix2 0 l))
  | 0, h => by
    show ab (pf (F := Ideal) (T ⟨0, h⟩) (G ⟨0, h⟩) (ix2 r l)) = _
    rw [pf_apply]
    simp
  | n + 1, h => by
    rw [Fin.univ_castSuccEmb, Finset.sup_cons, Finset.sup_map]
    show max (mxT (F := Ideal) T G n _ (ix2 r l)) (ab (pf (F := Ideal) (T ⟨n + 1, h⟩) (G ⟨n + 1, h⟩) (ix2 r l))) = _
    rw [mxT_apply r l n, pf_apply, max_comm]
    rfl

end Cert.Hand.Kn

end
-- ==== Proof.Group.lean ====
/- What a group of thirty-two rows computes over the extended reals: the reciprocal root, the value the exponents are
   read from, and the two powers of two, each as a function of the whole row. -/
module

public import proofs.«01_k».proof.Proof.Tiles

@[expose] public section

noncomputable section

namespace Cert.Hand.Kn

open Idealize.ShloMosaic Cert.KernelIdeal Cert.KernelIdeal.Gen

/-! ## The exponent's search, element by element -/

theorem fieldV_apply (b : IVec S32x1 32) (i : S32x1.Idx) : fieldV (F := Ideal) b i = fieldVal (b i) := rfl

theorem stepV_apply (v : FVec Ideal S32x1 .f32) (b : IVec S32x1 32) (t : BitVec 32) (i : S32x1.Idx) :
    stepV (F := Ideal) v b t i = step (v i) (b i) t := by
  show (if BitVec.ofBool (decide (v i < fieldVal (b i + t))) = 1#1 then b i else b i + t) = _
  unfold step
  by_cases h : v i < fieldVal (b i + t) <;> simp [h]

theorem searchV_apply (v : FVec Ideal S32x1 .f32) (i : S32x1.Idx) : searchV (F := Ideal) v i = search (v i) := by
  unfold searchV search
  simp only [stepV_apply]
  rfl

theorem biasedV_apply (v : FVec Ideal S32x1 .f32) (i : S32x1.Idx) : biasedV (F := Ideal) v i = biased (v i) := by
  unfold biasedV biased
  rw [← searchV_apply]
  show (if BitVec.ofBool (searchV (F := Ideal) v i == 0#32) = 1#1 then 126#32 else searchV (F := Ideal) v i) = _
  by_cases h : searchV (F := Ideal) v i = 0#32
  · simp [h]
  · have : (searchV (F := Ideal) v i == 0#32) = false := by simpa using h
    rw [this, if_neg h]
    exact if_neg (by decide)

theorem scaleV_apply (v : FVec Ideal S32x1 .f32) (i : S32x1.Idx) : scaleV (F := Ideal) (biasedV v) i = kScale (v i) := by
  unfold scaleV kScale
  rw [fieldV_apply, ← biasedV_apply]
  rfl

theorem invV_apply (v : FVec Ideal S32x1 .f32) (i : S32x1.Idx) : invV (F := Ideal) (biasedV v) i = kInv (v i) := by
  unfold invV kInv
  rw [fieldV_apply, ← biasedV_apply]
  rfl

theorem spread_apply (v : FVec Ideal S32x1 .f32) (r : Fin 32) (l : Fin 128) : spread (F := Ideal) v (ix2 r l) = v (ix2 r 0) := by
  pointwise [spread]

/-! ## The group's rows -/

variable (x0 : Vec Ideal S256x5120 .bf16) (x1 : Vec Ideal S1x5120 .bf16)

/-- Row `r` of group `g`. -/
def grow (g : Fin 8) (r : Fin 32) : Fin 256 := ⟨g.val * 32 + r.val, by omega⟩

/-- Row `a` of the block, and the weights. -/
def bX (a : Fin 256) : Fin 5120 → EReal := fun k => x0 (ix2 a k)
def bG : Fin 5120 → EReal := fun k => x1 (ix2 0 k)

theorem tX_apply (g : Fin 8) (h : Fin 2) (j : Fin 40) (r : Fin 16) (l : Fin 128) (s : Fin 32) (e : s.val = h.val * 16 + r.val) :
    tX (F := Ideal) x0 g h j (ix2 r l) = bX x0 (grow g s) (col j l) := by
  unfold tX bX
  show x0 _ = x0 _
  congr 1
  funext a
  fin_cases a
  · apply Fin.ext
    show g.val * 32 + h.val * 16 + 1 * r.val = g.val * 32 + s.val
    omega
  · apply Fin.ext
    show j.val * 128 + 1 * l.val = j.val * 128 + l.val
    omega

theorem tG_apply (j : Fin 40) (l : Fin 128) : tG (F := Ideal) x1 j (ix2 0 l) = bG x1 (col j l) := by
  unfold tG bG
  show x1 _ = x1 _
  congr 1
  funext a
  fin_cases a
  · rfl
  · apply Fin.ext
    show j.val * 128 + 1 * l.val = j.val * 128 + l.val
    omega

theorem ss_tX (g : Fin 8) (h : Fin 2) (r : Fin 16) (s : Fin 32) (e : s.val = h.val * 16 + r.val) (l : Fin 128) :
    ssT (F := Ideal) (tX x0 g h) 39 (by decide) (ix2 r l) = ∑ j, bX x0 (grow g s) (col j l) * bX x0 (grow g s) (col j l) := by
  rw [ssT_apply]
  exact Finset.sum_congr rfl fun j _ => by rw [tX_apply x0 g h _ r l s e]

theorem mx_tX (g : Fin 8) (h : Fin 2) (r : Fin 16) (s : Fin 32) (e : s.val = h.val * 16 + r.val) (l : Fin 128) :
    mxT (F := Ideal) (tX x0 g h) (tG x1) 39 (by decide) (ix2 r l)
      = (Finset.univ : Finset (Fin 40)).sup fun j => ab (bX x0 (grow g s) (col j l) * bG x1 (col j l)) := by
  rw [mxT_apply]
  exact Finset.sup_congr rfl fun j _ => by rw [tX_apply x0 g h _ r l s e, tG_apply]

/-- The group's reciprocal root is the row's. -/
theorem rT_apply (g : Fin 8) (s : Fin 32) : rT (F := Ideal) x0 g (ix2 s 0) = rr (bX x0 (grow g s)) := by
  unfold rT rr
  pointwise [rV]
  rw [sum_cols]
  congr 3
  refine Finset.sum_congr rfl fun l _ => ?_
  split
  · next h => exact ss_tX x0 g 0 _ s (by show s.val = 0 * 16 + s.val; omega) l
  · next h => exact ss_tX x0 g 1 _ s (by show s.val = 1 * 16 + (s.val - 16); omega) l

theorem vv_eq_sup {n : ℕ} [NeZero n] (X G : Fin n → EReal) :
    vv X G = (Finset.univ.sup fun k => ab (X k * G k)) * rr X * c448 := by
  unfold vv
  rw [← amax_eq]
  rfl

theorem negInf : Ideal.ofBits .f32 0xFF800000#32 = ⊥ := by simp [Ideal.ofBits, Ideal.ieee]

/-- The value the group's exponents are read from is the row's. -/
theorem vT_apply (g : Fin 8) (s : Fin 32) : vT (F := Ideal) x0 x1 g (ix2 s 0) = vv (bX x0 (grow g s)) (bG x1) := by
  have key : (Finset.univ.sup fun l : Fin 128 => (Finset.univ : Finset (Fin 40)).sup fun j => ab (bX x0 (grow g s) (col j l) * bG x1 (col j l)))
      = Finset.univ.sup fun k => ab (bX x0 (grow g s) k * bG x1 k) := sup_cols fun k => ab (bX x0 (grow g s) k * bG x1 k)
  rw [vv_eq_sup, ← key]
  unfold vT
  pointwise [vV]
  rw [rT_apply, negInf]
  refine congrArg (fun z => z * rr (bX x0 (grow g s)) * c448) ?_
  rw [fold_max_eq_sup]
  refine Finset.sup_congr rfl fun l _ => ?_
  split
  · next h => exact mx_tX x0 x1 g 0 _ s (by show s.val = 0 * 16 + s.val; omega) l
  · next h => exact mx_tX x0 x1 g 1 _ s (by show s.val = 1 * 16 + (s.val - 16); omega) l

end Cert.Hand.Kn

end
-- ==== Proof.Blocks.lean ====
/- What the stores of one grid point leave, over the extended reals: the products, the codes, the scales and the results,
   each as one function of the block's index. -/
module

public import proofs.«01_k».proof.Proof.Group

@[expose] public section

noncomputable section

namespace Cert.Hand.Kn

open Idealize.ShloMosaic Cert.KernelIdeal Cert.KernelIdeal.Gen

/-! ## Where the rectangles lie -/

theorem idxX (g : Fin 8) (h : Fin 2) (j : Fin 40) (r : Fin 16) (l : Fin 128) (s : Fin 32) (e : s.val = h.val * 16 + r.val) :
    (rX g h j).idx (ix2 r l) = ix2 (grow g s) (col j l) := by
  funext a
  fin_cases a
  · apply Fin.ext
    show g.val * 32 + h.val * 16 + 1 * r.val = g.val * 32 + s.val
    omega
  · apply Fin.ext
    show j.val * 128 + 1 * l.val = j.val * 128 + l.val
    omega

theorem idxC (g : Fin 8) (j : Fin 40) (s : Fin 32) (l : Fin 128) : (rC g j).idx (ix2 s l) = ix2 (grow g s) (col j l) := by
  funext a
  fin_cases a
  · apply Fin.ext
    show g.val * 32 + 1 * s.val = g.val * 32 + s.val
    omega
  · apply Fin.ext
    show j.val * 128 + 1 * l.val = j.val * 128 + l.val
    omega

theorem idxS (g : Fin 8) (s : Fin 32) (l : Fin 128) : (rS g).idx (ix2 s l) = ix2 (grow g s) l := by
  funext a
  fin_cases a
  · apply Fin.ext
    show g.val * 32 + 1 * s.val = g.val * 32 + s.val
    omega
  · apply Fin.ext
    show 0 + 1 * l.val = l.val
    omega

/-- Column `l` of the product's tile `n`. -/
def ycol (n : Fin 5) (l : Fin 128) : Fin 640 := ⟨n.val * 128 + l.val, by omega⟩

theorem idxY (n : Fin 5) (a : Fin 256) (l : Fin 128) : (rY n).idx (ix2 a l) = ix2 a (ycol n l) := by
  funext b
  fin_cases b
  · apply Fin.ext
    show 0 + 1 * a.val = a.val
    omega
  · apply Fin.ext
    show n.val * 128 + 1 * l.val = n.val * 128 + l.val
    omega

theorem idxW (n : Fin 5) (l : Fin 128) : (rW n).idx (ix2 0 l) = ix2 0 (ycol n l) := by
  funext b
  fin_cases b
  · rfl
  · apply Fin.ext
    show n.val * 128 + 1 * l.val = n.val * 128 + l.val
    omega

/-- Row `s` of half `b`. -/
def hrow (b : Fin 2) (s : Fin 128) : Fin 256 := ⟨b.val * 128 + s.val, by omega⟩

theorem idxB (b : Fin 2) (s l : Fin 128) : (rB b).idx (ix2 s l) = ix2 (hrow b s) l := by
  funext a
  fin_cases a
  · apply Fin.ext
    show b.val * 128 + 1 * s.val = b.val * 128 + s.val
    omega
  · apply Fin.ext
    show 0 + 1 * l.val = l.val
    omega

theorem idxZ (b : Fin 2) (i : Fin 8) (l : Fin 128) : (rZ b).idx (ix3 0 i l) = ix3 b i l := by
  funext a
  fin_cases a
  · apply Fin.ext
    show b.val + 1 * 0 = b.val
    omega
  · apply Fin.ext
    show 0 + 1 * i.val = i.val
    omega
  · apply Fin.ext
    show 0 + 1 * l.val = l.val
    omega

theorem readCov_apply {S : Shape} {e : EltTy} {sg : RefSig} {κ : Kind} {sp : Space} (v : View sg κ sp S e) (L : List (View.Piece (Elt Ideal) S e))
    (B : LoadRect S) (j : B.shape.Idx) : v.readCov L B j = View.canon L (B.idx j) := congrFun (View.readCov_eq_canon' v L B) j

theorem exists_grow (a : Fin 256) : ∃ g s, grow g s = a :=
  ⟨⟨a.val / 32, by omega⟩, ⟨a.val % 32, by omega⟩, Fin.ext (by show a.val / 32 * 32 + a.val % 32 = a.val; omega)⟩

theorem exists_ycol (k : Fin 640) : ∃ n l, ycol n l = k :=
  ⟨⟨k.val / 128, by omega⟩, ⟨k.val % 128, by omega⟩, Fin.ext (by show k.val / 128 * 128 + k.val % 128 = k.val; omega)⟩

/-! ## The products -/

variable (x0 : Vec Ideal S256x5120 .bf16) (x1 : Vec Ideal S1x5120 .bf16) (x2 : Vec Ideal S640x5120 .fp8e4m3) (x3 : Vec Ideal S1x640 .f32)

/-- The products, one function of the index. -/
def pF : Vec Ideal S256x5120 .f32 := fun y => bX x0 (y 0) (y 1) * bG x1 (y 1)

theorem canon_pL (n : ℕ) (hn : n ≤ 8) (g : Fin 8) (hg : g.val < n) (s : Fin 32) (j : Fin 40) (l : Fin 128) :
    View.canon (Val := Elt Ideal) (pL (F := Ideal) x0 x1 n hn) (ix2 (grow g s) (col j l)) = bX x0 (grow g s) (col j l) * bG x1 (col j l) := by
  rw [View.canon_apply_of_pieces (Val := Elt Ideal) (pF x0 x1) (pL (F := Ideal) x0 x1 n hn)]
  · rfl
  · intro p hp x
    simp only [pL, List.mem_flatMap, List.mem_map] at hp
    obtain ⟨g, _, h, _, j, _, rfl⟩ := hp
    obtain ⟨r, l, rfl⟩ : ∃ (r : Fin 16) (l : Fin 128), x = ix2 r l := ⟨x 0, x 1, eq_ix2 x⟩
    show shapeCast S16x128 (pf (F := Ideal) (tX x0 g h j) (tG x1 j)) shapeCasts_S16x128_S16x128 (ix2 r l) = pF x0 x1 ((rX g h j).idx (ix2 r l))
    rw [shapeCast_self, pf_apply, idxX g h j r l ⟨h.val * 16 + r.val, by omega⟩ rfl, tG_apply, tX_apply x0 g h j r l ⟨h.val * 16 + r.val, by omega⟩ rfl]
    rfl
  · refine ⟨_, List.mem_flatMap.2 ⟨g, mem_downFrom.2 hg, List.mem_flatMap.2 ⟨⟨s.val / 16, by omega⟩, mem_downFrom.2 (by show s.val / 16 < 2; omega),
      List.mem_map.2 ⟨j, mem_downFrom.2 j.isLt, rfl⟩⟩⟩, ?_⟩
    show _ ∈ (rX g ⟨s.val / 16, by omega⟩ j).set
    rw [← idxX g ⟨s.val / 16, by omega⟩ j ⟨s.val % 16, by omega⟩ l s (by show s.val = s.val / 16 * 16 + s.val % 16; omega)]
    exact LoadRect.idx_mem _ _

/-! ## The codes -/

/-- The code at row `X`, weights `G` and column `k`, as the kernel computes it. -/
def code {n : ℕ} [NeZero n] (X G : Fin n → EReal) (k : Fin n) : EReal :=
  min (Ideal.ofBits .f32 0x43E00000#32) (max (Ideal.ofBits .f32 0xC3E00000#32) (X k * G k * (rr X * kInv (vv X G))))

def cF : Vec Ideal S256x5120 .fp8e4m3 := fun y => code (bX x0 (y 0)) (bG x1) (y 1)

theorem codeT_apply (p : Vec Ideal S32x128 .f32) (m : FVec Ideal S32x128 .f32) (i : S32x128.Idx) :
    codeT (F := Ideal) p m i = min (Ideal.ofBits .f32 0x43E00000#32) (max (Ideal.ofBits .f32 0xC3E00000#32) (p i * m i)) := rfl

theorem mT_apply (g : Fin 8) (s : Fin 32) (l : Fin 128) :
    mT (F := Ideal) x0 x1 g (ix2 s l) = rr (bX x0 (grow g s)) * kInv (vv (bX x0 (grow g s)) (bG x1)) := by
  unfold mT bT
  rw [spread_apply]
  show rT (F := Ideal) x0 g (ix2 s 0) * invV (F := Ideal) (biasedV (vT x0 x1 g)) (ix2 s 0) = _
  rw [invV_apply, rT_apply, vT_apply]

/-- The codes' stores cover their block. -/
theorem cover_cL (rd : (L : List (View.Piece (Elt Ideal) S256x5120 .f32)) → (r : Rect S256x5120) → r.shape.Idx → Elt Ideal .f32) (y : S256x5120.Idx) : ∃ p ∈ cL (F := Ideal) x0 x1 rd, y ∈ p.1.set := by
  obtain ⟨a, k, rfl⟩ : ∃ (a : Fin 256) (k : Fin 5120), y = ix2 a k := ⟨y 0, y 1, eq_ix2 y⟩
  obtain ⟨g, s, rfl⟩ := exists_grow a
  obtain ⟨j, l, rfl⟩ := exists_col k
  refine ⟨_, List.mem_flatMap.2 ⟨g, mem_downFrom.2 g.isLt, List.mem_map.2 ⟨j, mem_downFrom.2 j.isLt, rfl⟩⟩, ?_⟩
  show _ ∈ (rC g j).set
  rw [← idxC]
  exact LoadRect.idx_mem _ _

theorem canon_cL (v8 : View sig .tc .vmem S256x5120 .f32) :
    View.canon (Val := Elt Ideal) (cL (F := Ideal) x0 x1 fun L r => v8.readCov L r.toLoadRect) = cF x0 x1 := by
  funext y
  refine View.canon_apply_of_pieces (Val := Elt Ideal) (cF x0 x1) _ ?_ y ?_
  · intro p hp x
    simp only [cL, List.mem_flatMap, List.mem_map] at hp
    obtain ⟨g, _, j, _, rfl⟩ := hp
    obtain ⟨s, l, rfl⟩ : ∃ (s : Fin 32) (l : Fin 128), x = ix2 s l := ⟨x 0, x 1, eq_ix2 x⟩
    show codeT (F := Ideal) (v8.readCov (pL x0 x1 (g.val + 1) g.isLt) (rC g j).toLoadRect) (mT x0 x1 g) (ix2 s l)
      = cF x0 x1 ((rC g j).idx (ix2 s l))
    rw [codeT_apply, mT_apply, readCov_apply, idxC, canon_pL x0 x1 _ _ g (Nat.lt_succ_self _)]
    rfl
  · exact cover_cL x0 x1 _ y

/-! ## The scales -/

def sF : Vec Ideal S256x128 .f32 := fun y => kScale (vv (bX x0 (y 0)) (bG x1))

/-- The scales' stores cover their buffer. -/
theorem cover_sL (y : S256x128.Idx) : ∃ p ∈ sL (F := Ideal) x0 x1, y ∈ p.1.set := by
  obtain ⟨a, l, rfl⟩ : ∃ (a : Fin 256) (l : Fin 128), y = ix2 a l := ⟨y 0, y 1, eq_ix2 y⟩
  obtain ⟨g, s, rfl⟩ := exists_grow a
  refine ⟨_, List.mem_map.2 ⟨g, mem_downFrom.2 g.isLt, rfl⟩, ?_⟩
  show _ ∈ (rS g).set
  rw [← idxS]
  exact LoadRect.idx_mem _ _

theorem canon_sL : View.canon (Val := Elt Ideal) (sL (F := Ideal) x0 x1) = sF x0 x1 := by
  funext y
  refine View.canon_apply_of_pieces (Val := Elt Ideal) (sF x0 x1) _ ?_ y ?_
  · intro p hp x
    simp only [sL, List.mem_map] at hp
    obtain ⟨g, _, rfl⟩ := hp
    obtain ⟨s, l, rfl⟩ : ∃ (s : Fin 32) (l : Fin 128), x = ix2 s l := ⟨x 0, x 1, eq_ix2 x⟩
    show shapeCast S32x128 (spread (F := Ideal) (scaleV (bT x0 x1 g))) shapeCasts_S32x128_S32x128 (ix2 s l) = sF x0 x1 ((rS g).idx (ix2 s l))
    rw [shapeCast_self, spread_apply, bT, scaleV_apply, idxS, vT_apply]
    rfl
  · exact cover_sL x0 x1 y

/-! ## The results -/

/-- The result at row `X`, weights `G`, column weights `W` and column scale `w`, as the kernel computes it. -/
def result {n : ℕ} [NeZero n] (X G W : Fin n → EReal) (w : EReal) : EReal :=
  (0 + ∑ k, code X G k * W k) * kScale (vv X G) * w

def yF : Vec Ideal S256x640 .bf16 := fun y => result (bX x0 (y 0)) (bG x1) (fun k => x2 (ix2 (y 1) k)) (x3 (ix2 0 (y 1)))

/-- The results' stores cover their block. -/
theorem cover_yL (c : Vec Ideal S256x5120 .fp8e4m3) (s : Vec Ideal S256x128 .f32) (y : S256x640.Idx) : ∃ p ∈ yL (F := Ideal) x2 x3 c s, y ∈ p.1.set := by
  obtain ⟨a, k, rfl⟩ : ∃ (a : Fin 256) (k : Fin 640), y = ix2 a k := ⟨y 0, y 1, eq_ix2 y⟩
  obtain ⟨n, l, rfl⟩ := exists_ycol k
  refine ⟨_, List.mem_map.2 ⟨n, mem_downFrom.2 n.isLt, rfl⟩, ?_⟩
  show _ ∈ (rY n).set
  rw [← idxY]
  exact LoadRect.idx_mem _ _

theorem canon_yL (c : Vec Ideal S256x5120 .fp8e4m3) (s : Vec Ideal S256x128 .f32) (hc : c = cF x0 x1) (hs : s = sF x0 x1) :
    View.canon (Val := Elt Ideal) (yL (F := Ideal) x2 x3 c s) = yF x0 x1 x2 x3 := by
  subst hc hs
  funext y
  refine View.canon_apply_of_pieces (Val := Elt Ideal) (yF x0 x1 x2 x3) _ ?_ y ?_
  · intro p hp x
    simp only [yL, List.mem_map] at hp
    obtain ⟨n, _, rfl⟩ := hp
    obtain ⟨a, l, rfl⟩ : ∃ (a : Fin 256) (l : Fin 128), x = ix2 a l := ⟨x 0, x 1, eq_ix2 x⟩
    have hw : View.ld x3 (rW n) (ix2 0 l) = x3 (ix2 0 (ycol n l)) := congrArg x3 (idxW n l)
    have hy : ∀ (A : FVec Ideal S256x640 .f32), extractStridedSlice S256x128 ![0, n.val * 128] A (slicesY n) (ix2 a l) = A (ix2 a (ycol n l)) := by
      intro A
      refine congrArg A (funext fun b => ?_)
      fin_cases b
      · apply Fin.ext
        show 0 + a.val = a.val
        omega
      · apply Fin.ext
        show n.val * 128 + l.val = n.val * 128 + l.val
        rfl
    have hacc : accT (F := Ideal) x2 (cF x0 x1) (ix2 a (ycol n l)) = 0 + ∑ k, cF x0 x1 (ix2 a k) * x2 (ix2 (ycol n l) k) := by
      pointwise [accT]
    show (extractStridedSlice S256x128 ![0, n.val * 128] (accT (F := Ideal) x2 (cF x0 x1)) (slicesY n) (ix2 a l) * sF x0 x1 (ix2 a l))
      * broadcastTo S256x128 (shapeCast S1x128 (View.ld x3 (rW n)) shapeCasts_S1x128_S1x128 : FVec Ideal S1x128 .f32) broadcasts_S1x128_S256x128 (ix2 a l)
      = yF x0 x1 x2 x3 ((rY n).idx (ix2 a l))
    have hb : ∀ (w : FVec Ideal S1x128 .f32), broadcastTo S256x128 (shapeCast S1x128 w shapeCasts_S1x128_S1x128 : FVec Ideal S1x128 .f32) broadcasts_S1x128_S256x128 (ix2 a l) = w (ix2 0 l) := by
      intro w; pointwise
    rw [hy, hacc, hb, hw, idxY]
    rfl
  · exact cover_yL x2 x3 _ _ y

/-- The planes of scales. -/
def zF : Vec Ideal S2x8x128 .f32 := fun y => kScale (vv (bX x0 (hrow (y 0) (y 2))) (bG x1))

/-- The planes' stores cover their block. -/
theorem cover_zL (s : (b : Fin 2) → Vec Ideal S128x128 .f32) (y : S2x8x128.Idx) : ∃ p ∈ zL (F := Ideal) s, y ∈ p.1.set := by
  obtain ⟨b, i, l, rfl⟩ : ∃ (b : Fin 2) (i : Fin 8) (l : Fin 128), y = ix3 b i l := ⟨y 0, y 1, y 2, eq_ix3 y⟩
  refine ⟨_, List.mem_map.2 ⟨b, mem_downFrom.2 b.isLt, rfl⟩, ?_⟩
  show _ ∈ (rZ b).set
  rw [← idxZ]
  exact LoadRect.idx_mem _ _

theorem canon_zL (v9 : View sig .tc .vmem S256x128 .f32) :
    View.canon (Val := Elt Ideal) (zL (F := Ideal) fun b => v9.readCov (sL x0 x1) (rB b).toLoadRect) = zF x0 x1 := by
  funext y
  refine View.canon_apply_of_pieces (Val := Elt Ideal) (zF x0 x1) _ ?_ y ?_
  · intro p hp x
    simp only [zL, List.mem_map] at hp
    obtain ⟨b, _, rfl⟩ := hp
    obtain ⟨o, i, l, rfl⟩ : ∃ (o : Fin 1) (i : Fin 8) (l : Fin 128), x = ix3 o i l := ⟨x 0, x 1, x 2, eq_ix3 x⟩
    obtain rfl : o = 0 := Subsingleton.elim _ _
    show planeT (F := Ideal) (v9.readCov (sL x0 x1) (rB b).toLoadRect) (ix3 0 i l) = zF x0 x1 ((rZ b).idx (ix3 0 i l))
    have hp : ∀ t : Vec Ideal S128x128 .f32, planeT (F := Ideal) t (ix3 0 i l) = t (ix2 l ⟨i.val, by omega⟩) := by
      intro t; pointwise [planeT]
    rw [hp, readCov_apply, idxB, canon_sL, idxZ]
    rfl
  · exact cover_zL _ y

end Cert.Hand.Kn

end
-- ==== Proof.FrameB.lean ====
/- The ideal kernel's frame, with what each result's block holds after every grid point: the run of the body (RunB.lean) placed
   in the pipeline, the launch, and the arguments unchanged. The text follows the generated frame of the Bits program. -/
module

public import proofs.«01_k».proof.Proof.RunB
public import proofs.«01_k».proof.Proof.Blocks
public import Idealize.ShloMosaic.Lib.Claim

@[expose] public section

-- membership in a rectangle of production extents (`View.cover_of_tiled`): the elaborator's structural look
-- recurses once per coordinate of the long axes
set_option maxRecDepth 16384

noncomputable section

namespace Cert.Hand.Fr

open Cert.KernelIdeal Cert.KernelIdeal.Gen Cert.Hand.Kn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the stores leave -/

theorem ld_whole (x2 : Vec Ideal S640x5120 .fp8e4m3) :
    View.ld x2 (Rect.unit (s := S640x5120) ![0, 0] S640x5120.size inb_S640x5120_S640x5120_0_0) = x2 := by
  funext y
  refine congrArg x2 (funext fun a => Fin.ext ?_)
  fin_cases a
  · show 0 + 1 * (y 0).val = (y 0).val
    omega
  · show 0 + 1 * (y 1).val = (y 1).val
    omega

/-- The results' block: the codes and the scales are read back whole. -/
theorem canon_yB (v6 : View sig .tc .vmem S256x5120 .fp8e4m3) (v8 : View sig .tc .vmem S256x5120 .f32) (v9 : View sig .tc .vmem S256x128 .f32)
    (x0 : Vec Ideal S256x5120 .bf16) (x1 : Vec Ideal S1x5120 .bf16) (x2 : Vec Ideal S640x5120 .fp8e4m3) (x3 : Vec Ideal S1x640 .f32) :
    View.canon (Val := Elt Ideal) (yB (F := Ideal) v6 v8 v9 x0 x1 x2 x3) = yF x0 x1 x2 x3 := by
  unfold yB
  rw [ld_whole]
  refine canon_yL x0 x1 x2 x3 _ _ ?_ ?_
  · funext y
    refine (readCov_apply _ _ _ _).trans ?_
    unfold cB
    rw [canon_cL]
    refine congrArg (cF x0 x1) (funext fun a => Fin.ext ?_)
    fin_cases a
    · show 0 + 1 * (y 0).val = (y 0).val
      omega
    · show 0 + 1 * (y 1).val = (y 1).val
      omega
  · funext y
    refine (readCov_apply _ _ _ _).trans ?_
    rw [canon_sL]
    refine congrArg (sF x0 x1) (funext fun a => Fin.ext ?_)
    fin_cases a
    · show 0 + 1 * (y 0).val = (y 0).val
      omega
    · show 0 + 1 * (y 1).val = (y 1).val
      omega

/-! ## The pipeline's proof data -/

/-- The proof data of the one pipeline on core `c`: the arrays as the region finds them (`V`); after the body at
    point `t` each input's buffer at its block and the outputs' at what the stores of the point leave; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yF (iblk m c 0 t) (iblk m c 1 t) (iblk m c 2 t) (iblk m c 3 t)
    | ⟨5, _⟩ => cF (iblk m c 0 t) (iblk m c 1 t)
    | ⟨6, _⟩ => zF (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yF (iblk m c 0 t) (iblk m c 1 t) (iblk m c 2 t) (iblk m c 3 t) := by dsimp only [dats]
theorem after0_5 (c : Dev nD) (t : Fin cfg0.N) : (dats m 0 c).after 5 t = cF (iblk m c 0 t) (iblk m c 1 t) := by dsimp only [dats]
theorem after0_6 (c : Dev nD) (t : Fin cfg0.N) : (dats m 0 c).after 6 t = zF (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, %L4, %h4, H4⟩, ⟨%e5, %L5, %h5, H5⟩, ⟨%e6, %L6, %h6, H6⟩, HS0, HS1⟩
  subst h4 h5 h6
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (cover_yL _ _ _ _)).trans (canon_yB _ _ _ _ _ _ _)
  isplitl [H5]
  · unfold owns; iexists _; isplitr
    swap; · iexact H5
    ipureintro; exact (View.read_writes_eq_canon _ _ _ (cover_cL _ _ _)).trans (canon_cL _ _ _)
  unfold owns; iexists _; isplitr
  swap; · iexact H6
  ipureintro; exact (View.read_writes_eq_canon _ _ _ (cover_zL _)).trans (canon_zL _ _ _)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Hand.Fr

end
-- ==== Proof.Arrays.lean ====
/- What the ideal kernel's three arrays hold after the run, and its three results, as functions of the arguments. -/
module

public import proofs.«01_k».proof.Proof.FrameB
public import Idealize.ShloMosaic.Lib.Pipeline.ValueKit
public import Idealize.ShloMosaic.Lib.ValueLayout

@[expose] public section

set_option maxRecDepth 16384

noncomputable section

namespace Cert.Hand.Fr

open Idealize.ShloMosaic Idealize.ShloMosaic.TcCoe Idealize.SL.Sem
open Cert.KernelIdeal Cert.KernelIdeal.Gen Cert.Hand.Kn
open Idealize.ShloMosaic.Pipeline (Dat)

variable (m : (ℓ : Loc nD τ sig) → Buf (Elt Ideal) ℓ) (ρ : Dev nD → PrngReg)

/-! ## The arguments, row by row -/

/-- Row `a` of the activations. -/
def rowX (c : Dev nD) (a : Fin 4096) : Fin 5120 → EReal := fun k => m ((c : Thread nD τ).loc main_arg0) (ix3 0 a k)
/-- The weights of the norm. -/
def rowG (c : Dev nD) : Fin 5120 → EReal := fun k => m ((c : Thread nD τ).loc main_arg1) (ix1 k)
/-- Row `n` of the weights of the product. -/
def rowW (c : Dev nD) (n : Fin 640) : Fin 5120 → EReal := fun k => m ((c : Thread nD τ).loc main_arg2) (ix2 n k)
/-- The scale of that row. -/
def sclW (c : Dev nD) (n : Fin 640) : EReal := m ((c : Thread nD τ).loc main_arg3) (ix1 n)

theorem V_v0 (c : Dev nD) : V m c main_v0 = shapeCast S4096x5120 (m ((c : Thread nD τ).loc main_arg0)) shapeCasts_S1x4096x5120_S4096x5120 := by
  show StableHlo.after hostOps0 _ (Proc.devRef .tc main_v0) = _
  after_results
  rfl

theorem V_v1 (c : Dev nD) : V m c main_v1 = shapeCast S1x5120 (m ((c : Thread nD τ).loc main_arg1)) shapeCasts_S5120_S1x5120 := by
  show StableHlo.after hostOps0 _ (Proc.devRef .tc main_v1) = _
  after_results
  rfl

theorem V_v2 (c : Dev nD) : V m c main_v2 = shapeCast S1x640 (m ((c : Thread nD τ).loc main_arg3)) shapeCasts_S640_S1x640 := by
  show StableHlo.after hostOps0 _ (Proc.devRef .tc main_v2) = _
  after_results
  rfl

/-! ## The blocks -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0, 0] := (by decide +kernel : ∀ t : Fin grid0.N, _)

/-- Row `a` of point `t`'s block. -/
def prow (t : Fin cfg0.N) (a : Fin 256) : Fin 4096 :=
  ⟨t.val * 256 + a.val, by have : t.val < 16 := t.isLt; omega⟩

theorem emb0 (t : Fin cfg0.N) (a : Fin 256) (k : Fin 5120) : (win0_0.blk t).view.emb (ix2 a k) = ix2 (prow t a) k := by
  blk_ext [e0, prow, ix2]

theorem emb1 (t : Fin cfg0.N) (k : Fin 5120) : (win0_1.blk t).view.emb (ix2 0 k) = ix2 0 k := by
  blk_ext [e1, ix2]

theorem emb2 (t : Fin cfg0.N) (n : Fin 640) (k : Fin 5120) : (win0_2.blk t).view.emb (ix2 n k) = ix2 n k := by
  blk_ext [e2, ix2]

theorem emb3 (t : Fin cfg0.N) (n : Fin 640) : (win0_3.blk t).view.emb (ix2 0 n) = ix2 0 n := by
  blk_ext [e3, ix2]

theorem emb4 (t : Fin cfg0.N) (a : Fin 256) (n : Fin 640) : (win0_4.blk t).view.emb (ix2 a n) = ix2 (prow t a) n := by
  blk_ext [e4, prow, ix2]

theorem emb5 (t : Fin cfg0.N) (a : Fin 256) (k : Fin 5120) : (win0_5.blk t).view.emb (ix2 a k) = ix2 (prow t a) k := by
  blk_ext [e5, prow, ix2]

theorem emb6 (t : Fin cfg0.N) (b : Fin 2) (i : Fin 8) (l : Fin 128) :
    (win0_6.blk t).view.emb (ix3 b i l) = ix3 (⟨t.val * 2 + b.val, by have : t.val < 16 := t.isLt; omega⟩ : Fin 32) i l := by
  blk_ext [e6, ix3]

theorem blk0 (c : Dev nD) (t : Fin cfg0.N) (a : Fin 256) : bX (iblk m c 0 t) a = rowX m c (prow t a) := by
  funext k
  show V m c main_v0 ((win0_0.blk t).view.emb (ix2 a k)) = _
  rw [emb0, V_v0]
  exact ValueIdx.shapeCast_1ab_ab_apply _ _ _ _

theorem blk1 (c : Dev nD) (t : Fin cfg0.N) : bG (iblk m c 1 t) = rowG m c := by
  funext k
  show V m c main_v1 ((win0_1.blk t).view.emb (ix2 0 k)) = _
  rw [emb1, V_v1]
  exact ValueIdx.shapeCast_a_1a_apply _ _ _ _

theorem blk2 (c : Dev nD) (t : Fin cfg0.N) (n : Fin 640) : (fun k => iblk m c 2 t (ix2 n k)) = rowW m c n := by
  funext k
  show V m c main_arg2 ((win0_2.blk t).view.emb (ix2 n k)) = _
  rw [emb2, V_main_arg2]
  rfl

theorem blk3 (c : Dev nD) (t : Fin cfg0.N) (n : Fin 640) : iblk m c 3 t (ix2 0 n) = sclW m c n := by
  show V m c main_v2 ((win0_3.blk t).view.emb (ix2 0 n)) = _
  rw [emb3, V_v2]
  exact ValueIdx.shapeCast_a_1a_apply _ _ _ _

/-! ## The arrays -/

/-- The results' array. -/
def YA (c : Dev nD) : Vec Ideal S4096x640 .bf16 := fun y => result (rowX m c (y 0)) (rowG m c) (rowW m c (y 1)) (sclW m c (y 1))
/-- The codes' array. -/
def CA (c : Dev nD) : Vec Ideal S4096x5120 .fp8e4m3 := fun y => code (rowX m c (y 0)) (rowG m c) (y 1)
/-- The array of the scales' planes. -/
def ZA (c : Dev nD) : Vec Ideal S32x8x128 .f32 := fun y =>
  kScale (vv (rowX m c ⟨(y 0).val * 128 + (y 2).val, by have h0 : (y 0).val < 32 := (y 0).isLt; have h2 : (y 2).val < 128 := (y 2).isLt; omega⟩) (rowG m c))

theorem arr4 (c : Dev nD) : (dats m 0 c).arrAt 4 cfg0.N = YA m c := by
  refine (dats m 0 c).arrAt_eq_of_covers 4 _ (by decide +kernel) fun t hf y => ?_
  blk_simp
  rw [after0_4]
  obtain ⟨a, n, rfl⟩ : ∃ (a : Fin 256) (n : Fin 640), y = ix2 a n := ⟨y 0, y 1, eq_ix2 y⟩
  rw [emb4]
  show result (bX (iblk m c 0 t) a) (bG (iblk m c 1 t)) (fun k => iblk m c 2 t (ix2 n k)) (iblk m c 3 t (ix2 0 n))
    = result (rowX m c (prow t a)) (rowG m c) (rowW m c n) (sclW m c n)
  rw [blk0, blk1, blk2, blk3]

theorem arr5 (c : Dev nD) : (dats m 0 c).arrAt 5 cfg0.N = CA m c := by
  refine (dats m 0 c).arrAt_eq_of_covers 5 _ (by decide +kernel) fun t hf y => ?_
  blk_simp
  rw [after0_5]
  obtain ⟨a, k, rfl⟩ : ∃ (a : Fin 256) (k : Fin 5120), y = ix2 a k := ⟨y 0, y 1, eq_ix2 y⟩
  rw [emb5]
  show code (bX (iblk m c 0 t) a) (bG (iblk m c 1 t)) k = code (rowX m c (prow t a)) (rowG m c) k
  rw [blk0, blk1]

theorem arr6 (c : Dev nD) : (dats m 0 c).arrAt 6 cfg0.N = ZA m c := by
  refine (dats m 0 c).arrAt_eq_of_covers 6 _ (by decide +kernel) fun t hf y => ?_
  blk_simp
  rw [after0_6]
  obtain ⟨b, i, l, rfl⟩ : ∃ (b : Fin 2) (i : Fin 8) (l : Fin 128), y = ix3 b i l := ⟨y 0, y 1, y 2, eq_ix3 y⟩
  rw [emb6]
  have h : prow t (hrow b l) = ⟨(t.val * 2 + b.val) * 128 + l.val, by have : t.val < 16 := t.isLt; omega⟩ :=
    Fin.ext (by show t.val * 256 + (b.val * 128 + l.val) = (t.val * 2 + b.val) * 128 + l.val; omega)
  show kScale (vv (bX (iblk m c 0 t) (hrow b l)) (bG (iblk m c 1 t))) = kScale (vv (rowX m c ⟨(t.val * 2 + b.val) * 128 + l.val, _⟩) (rowG m c))
  rw [blk0, blk1, h]

/-! ## The results -/

/-- The reshaped results. -/
def Y (c : Dev nD) : Vec Ideal S1x4096x640 .bf16 := fun y => result (rowX m c (y 1)) (rowG m c) (rowW m c (y 2)) (sclW m c (y 2))
/-- The reshaped codes. -/
def C (c : Dev nD) : Vec Ideal S1x4096x5120 .fp8e4m3 := fun y => code (rowX m c (y 1)) (rowG m c) (y 2)
/-- The scales, one a row. -/
def Z (c : Dev nD) : Vec Ideal S1x4096x1 .f32 := fun y => kScale (vv (rowX m c (y 1)) (rowG m c))

theorem wA4 (c : Dev nD) : Pipeline.withArrays spec0 c (V0 m c) (fun w => (dats m 0 c).arrAt w cfg0.N) (Proc.devRef .tc main_v3_0) = YA m c :=
  (Pipeline.withArrays_arr spec0 launch0.win.arr_inj c (V0 m c) _ 4).trans (arr4 m c)

theorem wA5 (c : Dev nD) : Pipeline.withArrays spec0 c (V0 m c) (fun w => (dats m 0 c).arrAt w cfg0.N) (Proc.devRef .tc main_v3_1) = CA m c :=
  (Pipeline.withArrays_arr spec0 launch0.win.arr_inj c (V0 m c) _ 5).trans (arr5 m c)

theorem wA6 (c : Dev nD) : Pipeline.withArrays spec0 c (V0 m c) (fun w => (dats m 0 c).arrAt w cfg0.N) (Proc.devRef .tc main_v3_2) = ZA m c :=
  (Pipeline.withArrays_arr spec0 launch0.win.arr_inj c (V0 m c) _ 6).trans (arr6 m c)

theorem tail4 (c : Dev nD) : Pipeline.afterTail₀ cfgs (dats m) 0 (V0 m) [hostOps1] c main_v4 = Y m c := by
  show StableHlo.after hostOps1 (Pipeline.withArrays spec0 c (V0 m c) fun w => (dats m 0 c).arrAt w cfg0.N) (Proc.devRef .tc main_v4) = _
  after_results
  rw [wA4]
  funext y
  obtain ⟨o, a, n, rfl⟩ : ∃ (o : Fin 1) (a : Fin 4096) (n : Fin 640), y = ix3 o a n := ⟨y 0, y 1, y 2, eq_ix3 y⟩
  obtain rfl : o = 0 := Subsingleton.elim _ _
  exact ValueIdx.shapeCast_ab_1ab_apply _ _ _ _ _

theorem tail5 (c : Dev nD) : Pipeline.afterTail₀ cfgs (dats m) 0 (V0 m) [hostOps1] c main_v5 = C m c := by
  show StableHlo.after hostOps1 (Pipeline.withArrays spec0 c (V0 m c) fun w => (dats m 0 c).arrAt w cfg0.N) (Proc.devRef .tc main_v5) = _
  after_results
  rw [wA5]
  funext y
  obtain ⟨o, a, n, rfl⟩ : ∃ (o : Fin 1) (a : Fin 4096) (n : Fin 5120), y = ix3 o a n := ⟨y 0, y 1, y 2, eq_ix3 y⟩
  obtain rfl : o = 0 := Subsingleton.elim _ _
  exact ValueIdx.shapeCast_ab_1ab_apply _ _ _ _ _

theorem tail8 (c : Dev nD) : Pipeline.afterTail₀ cfgs (dats m) 0 (V0 m) [hostOps1] c main_v8 = Z m c := by
  show StableHlo.after hostOps1 (Pipeline.withArrays spec0 c (V0 m c) fun w => (dats m 0 c).arrAt w cfg0.N) (Proc.devRef .tc main_v8) = _
  after_results
  rw [wA6]
  funext y
  obtain ⟨o, a, n, rfl⟩ : ∃ (o : Fin 1) (a : Fin 4096) (n : Fin 1), y = ix3 o a n := ⟨y 0, y 1, y 2, eq_ix3 y⟩
  obtain rfl : o = 0 := Subsingleton.elim _ _
  obtain rfl : n = 0 := Subsingleton.elim _ _
  have hq : a.val / 128 < 32 := by omega
  have hr : a.val % 128 < 128 := by omega
  refine (shapeCast_apply (s := S32x128) (t := S1x4096x1) _ _ _ (ix2 (⟨a.val / 128, hq⟩ : Fin 32) (⟨a.val % 128, hr⟩ : Fin 128)) ?_).trans ?_
  · rw [Shape.rowMajor_val_three, Shape.rowMajor_val_two]
    show a.val / 128 * 128 + a.val % 128 = (0 * 4096 + a.val) * 1 + 0
    omega
  refine (shapeCast_apply (s := S32x1x128) (t := S32x128) _ _ _ (ix3 (⟨a.val / 128, hq⟩ : Fin 32) (0 : Fin 1) (⟨a.val % 128, hr⟩ : Fin 128)) ?_).trans ?_
  · rw [Shape.rowMajor_val_three, Shape.rowMajor_val_two]
    show (a.val / 128 * 1 + 0) * 128 + a.val % 128 = a.val / 128 * 128 + a.val % 128
    omega
  show kScale (vv (rowX m c ⟨(0 + a.val / 128) * 128 + (0 + a.val % 128), _⟩) (rowG m c)) = kScale (vv (rowX m c a) (rowG m c))
  have h : (⟨(0 + a.val / 128) * 128 + (0 + a.val % 128), by omega⟩ : Fin 4096) = a :=
    Fin.ext (by show (0 + a.val / 128) * 128 + (0 + a.val % 128) = a.val; omega)
  rw [h]

/-- The run: the three results, and the arguments as they were. -/
theorem run : θ_run defs (onTc (τ := τ) (main (F := Ideal))) ⟨m, fun _ => 0, ρ⟩ (fun r => ∀ c : Dev nD,
      r.2.mem ((c.tc : Thread nD τ).loc main_v4) = Y m c
      ∧ r.2.mem ((c.tc : Thread nD τ).loc main_v5) = C m c
      ∧ r.2.mem ((c.tc : Thread nD τ).loc main_v8) = Z m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v4 (Pipeline.mem_restRefs_of main_v4 (by decide) (by decide))).trans (tail4 m c),
      ((h c).2 main_v5 (Pipeline.mem_restRefs_of main_v5 (by decide) (by decide))).trans (tail5 m c),
      ((h c).2 main_v8 (Pipeline.mem_restRefs_of main_v8 (by decide) (by decide))).trans (tail8 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c))⟩) (run_main m ρ)

end Cert.Hand.Fr

end
-- ==== Proof.RefRow.lean ====
/- What the reference's body computes, row by row, over the extended reals. -/
module

public import proofs.«01_k».proof.Proof.Gen.ReferenceIdeal.Frame
public import proofs.«01_k».proof.Proof.Row
public import Idealize.ShloMosaic.Lib.Pointwise
public import Idealize.ShloMosaic.Lib.ValueLayout
public import Idealize.ShloMosaic.Lib.ValueLayoutCasts

@[expose] public section

noncomputable section

namespace Cert.Hand.Rf

open Idealize.ShloMosaic Cert.ReferenceIdeal Cert.ReferenceIdeal.Gen

variable (p0 : Vec Ideal S1x4096x5120 .bf16) (p1 : Vec Ideal S1x5120 .bf16)

/-- Row `a` of the activations, and the weights. -/
def aX (a : Fin 4096) : Fin 5120 → EReal := fun k => p0 (ix3 0 a k)
def aG : Fin 5120 → EReal := fun k => p1 (ix2 0 k)

theorem pay5_apply (a : Fin 4096) (k : Fin 5120) :
    k0_pay5 (F := Ideal) p0 p1 (ix2 a k) = aX p0 a k * rr (aX p0 a) * aG p1 k := by
  unfold rr
  pointwise [k0_pay5]
  rfl

/-- The largest magnitude of each row. -/
def m6 (q : FVec Ideal S4096x5120 .f32) : FVec Ideal S4096x1 .f32 :=
  shapeCast S4096x1 (multiReduction .maximumf [1] S4096 (absf q) 0xFF800000#32 reduces_S4096x5120_S4096 (.inl rfl) rfl) shapeCasts_S4096_S4096x1

theorem m6_apply (q : FVec Ideal S4096x5120 .f32) (a : Fin 4096) :
    m6 q (ix2 a 0) = Finset.univ.fold max (Ideal.ofBits .f32 0xFF800000#32) fun k => FloatOps.absf (q (ix2 a k)) := by
  pointwise [m6]

/-- The value the exponents are read from, of the scaled activations. -/
def v6 (q : FVec Ideal S4096x5120 .f32) : FVec Ideal S4096x1 .f32 :=
  mulf (m6 q) (broadcast S4096x1 (Scalar.ofBits .f32 0x3B124925#32))

theorem fold_bot (f g : Fin 5120 → EReal) (h : ∀ k, f k = g k) :
    Finset.univ.fold max (Ideal.ofBits .f32 0xFF800000#32) f = Finset.univ.fold max ⊥ g := by
  rw [show Ideal.ofBits .f32 0xFF800000#32 = (⊥ : EReal) by simp [Ideal.ofBits, Ideal.ieee], funext h]

theorem scl_apply (z : FVec Ideal S4096x1 .f32) (a : Fin 4096) :
    mulf z (broadcast S4096x1 (Scalar.ofBits .f32 0x3B124925#32)) (ix2 a 0) = z (ix2 a 0) * Ideal.ofBits .f32 0x3B124925#32 := by
  pointwise

theorem v6_apply (q : FVec Ideal S4096x5120 .f32) (a : Fin 4096) (X G : Fin 5120 → EReal) (h : ∀ k, q (ix2 a k) = X k * rr X * G k) :
    v6 q (ix2 a 0) = vv X G :=
  (scl_apply (m6 q) a).trans (congrArg (fun z : EReal => z * c448) ((m6_apply q a).trans (fold_bot _ _ fun k => by rw [h]; rfl)))

theorem named_inv_ln2 : (Named.named κ "inv_ln2" 0x3FB8AA3B#32 : Ideal .f32) = (((Real.log 2)⁻¹ : ℝ) : EReal) :=
  IdealRules.named_const.ideal_named_scalar _ _ _ _ rfl

/-- The exponents of such values. -/
def e6 (v : FVec Ideal S4096x1 .f32) : FVec Ideal S4096x1 .f32 :=
  select (cmpf CmpFPredicate.olt v (broadcast S4096x1 (Scalar.ofBits .f32 0x00800000#32)))
    (broadcast S4096x1 (Scalar.ofBits .f32 0x00000000#32))
    (addf (floor (mulf (log v) (broadcast S4096x1 (Named.named κ "inv_ln2" 0x3FB8AA3B#32)))) (broadcast S4096x1 (Scalar.ofBits .f32 0x3F800000#32)))

theorem e6_apply (v : FVec Ideal S4096x1 .f32) (a : Fin 4096) : e6 v (ix2 a 0) = rExp (v (ix2 a 0)) := by
  pointwise [e6]
  rw [named_inv_ln2]
  rfl

theorem pay6_eq : k0_pay6 (F := Ideal) p0 p1 = e6 (v6 (k0_pay5 p0 p1)) := rfl

/-- The reference's exponent of row `a`. -/
theorem pay6_apply (a : Fin 4096) : k0_pay6 (F := Ideal) p0 p1 (ix2 a 0) = rExp (vv (aX p0 a) (aG p1)) := by
  rw [pay6_eq, e6_apply, v6_apply _ a _ _ (pay5_apply p0 p1 a)]

/-- The scaled activations over two to the exponent, clipped. -/
def c8 (q : FVec Ideal S4096x5120 .f32) (e : FVec Ideal S4096x1 .f32) : FVec Ideal S4096x5120 .f32 :=
  minimumf (broadcast S4096x5120 (Scalar.ofBits .f32 0x43E00000#32)) (maximumf (broadcast S4096x5120 (Scalar.ofBits .f32 0xC3E00000#32))
    (mulf q (broadcastTo S4096x5120 (exp2 (subf (broadcast S4096x1 (Scalar.ofBits .f32 0x00000000#32)) e)) broadcasts_S4096x1_S4096x5120)))

theorem c8_apply (q : FVec Ideal S4096x5120 .f32) (e : FVec Ideal S4096x1 .f32) (a : Fin 4096) (k : Fin 5120) :
    c8 q e (ix2 a k) = min (Ideal.ofBits .f32 0x43E00000#32) (max (Ideal.ofBits .f32 0xC3E00000#32) (q (ix2 a k) * Ideal.exp2 (0 - e (ix2 a 0)))) := by
  pointwise [c8]
  rfl

theorem pay8_eq : k0_pay8 (F := Ideal) p0 p1 = c8 (k0_pay5 p0 p1) (k0_pay6 p0 p1) := rfl

/-- The reference's code at row `a`, column `k`. -/
theorem pay8_apply (a : Fin 4096) (k : Fin 5120) :
    k0_pay8 (F := Ideal) p0 p1 (ix2 a k) = min (Ideal.ofBits .f32 0x43E00000#32) (max (Ideal.ofBits .f32 0xC3E00000#32)
      (aX p0 a k * rr (aX p0 a) * aG p1 k * Ideal.exp2 (0 - rExp (vv (aX p0 a) (aG p1))))) := by
  rw [pay8_eq, c8_apply, pay5_apply, pay6_apply]

theorem pay7_eq : k0_pay7 (F := Ideal) p0 p1 = exp2 (k0_pay6 p0 p1) := rfl

theorem exp2_apply (e : FVec Ideal S4096x1 .f32) (a : Fin 4096) : exp2 e (ix2 a 0) = Ideal.exp2 (e (ix2 a 0)) := rfl

/-- The reference's scale of row `a`. -/
theorem pay7_apply (a : Fin 4096) :
    k0_pay7 (F := Ideal) p0 p1 (ix2 a 0) = Ideal.exp2 (rExp (vv (aX p0 a) (aG p1))) := by
  rw [pay7_eq, exp2_apply, pay6_apply]

/-- The reference's results from its scales and its codes. -/
theorem pay2_apply (e : FVec Ideal S4096x1 .f32) (q : FVec Ideal S4096x5120 .f32) (x2 : Vec Ideal S640x5120 .fp8e4m3) (x3 : Vec Ideal S1x640 .f32)
    (a : Fin 4096) (n : Fin 640) :
    k0_pay2 (F := Ideal) e q x2 x3 (ix3 0 a n) = (0 + ∑ k : Fin 5120, q (ix2 a k) * x2 (ix2 n k)) * e (ix2 a 0) * x3 (ix2 0 n) := by
  unfold k0_pay2
  pointwise [k0_pay1, shapeCast_self]

theorem pay3_apply (q : FVec Ideal S4096x5120 .f32) (a : Fin 4096) (k : Fin 5120) :
    k0_pay3 (F := Ideal) q (ix3 0 a k) = q (ix2 a k) := by
  unfold k0_pay3
  pointwise [k0_pay1]

theorem pay4_apply (e : FVec Ideal S4096x1 .f32) (a : Fin 4096) :
    k0_pay4 (F := Ideal) e (ix3 0 a 0) = e (ix2 a 0) := by
  pointwise [k0_pay4]

end Cert.Hand.Rf

end
-- ==== Proof.Ref.lean ====
/- What the reference's three arrays hold after its run, as functions of the arguments. -/
module

public import proofs.«01_k».proof.Proof.RefRow
public import Idealize.ShloMosaic.Lib.Pipeline.ValueKit
public import Idealize.ShloMosaic.Lib.ValueLayout

@[expose] public section

set_option maxRecDepth 16384

noncomputable section

namespace Cert.Hand.Rf

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-! ## The arguments, row by row -/

/-- Row `a` of the activations. -/
def rowX (c : Dev nD) (a : Fin 4096) : Fin 5120 → EReal := fun k => m ((c : Thread nD τ).loc main_arg0) (ix3 0 a k)
/-- The weights of the norm. -/
def rowG (c : Dev nD) : Fin 5120 → EReal := fun k => m ((c : Thread nD τ).loc main_arg1) (ix1 k)
/-- Row `n` of the weights of the product. -/
def rowW (c : Dev nD) (n : Fin 640) : Fin 5120 → EReal := fun k => m ((c : Thread nD τ).loc main_arg2) (ix2 n k)
/-- The scale of that row. -/
def sclW (c : Dev nD) (n : Fin 640) : EReal := m ((c : Thread nD τ).loc main_arg3) (ix1 n)

theorem V_v0 (c : Dev nD) : V m c main_v0 = shapeCast S1x5120 (m ((c : Thread nD τ).loc main_arg1)) shapeCasts_S5120_S1x5120 := by
  show StableHlo.after hostOps0 _ (Proc.devRef .tc main_v0) = _
  after_results
  rfl

theorem V_v1 (c : Dev nD) : V m c main_v1 = shapeCast S1x640 (m ((c : Thread nD τ).loc main_arg3)) shapeCasts_S640_S1x640 := by
  show StableHlo.after hostOps0 _ (Proc.devRef .tc main_v1) = _
  after_results
  rfl

/-! ## One row of results -/

/-- Column `k` of the codes of a row. -/
def codeR (X G : Fin 5120 → EReal) (k : Fin 5120) : EReal :=
  min (Ideal.ofBits .f32 0x43E00000#32) (max (Ideal.ofBits .f32 0xC3E00000#32) (X k * rr X * G k * Ideal.exp2 (0 - rExp (vv X G))))

/-- One element of the results. -/
def resultR (X G W : Fin 5120 → EReal) (w : EReal) : EReal :=
  (0 + ∑ k, codeR X G k * W k) * Ideal.exp2 (rExp (vv X G)) * w

/-! ## What the body leaves -/

section Out
variable (x0 : Vec Ideal S1x4096x5120 .bf16) (x1 : Vec Ideal S1x5120 .bf16) (x2 : Vec Ideal S640x5120 .fp8e4m3) (x3 : Vec Ideal S1x640 .f32)

theorem z2 (a : Fin 2) : (![0, 0] : Fin 2 → ℕ) a = 0 := by fin_cases a <;> rfl
theorem z3 (a : Fin 3) : (![0, 0, 0] : Fin 3 → ℕ) a = 0 := by fin_cases a <;> rfl

theorem ld0 : View.ld x0 r0_0 = x0 := View.ld_unit_lit' _ _ z3
theorem ld1 : View.ld x1 r0_1 = x1 := View.ld_unit_lit' _ _ z2
theorem ld2 : View.ld x2 r0_2 = x2 := View.ld_unit_lit' _ _ z2
theorem ld3 : View.ld x3 r0_3 = x3 := View.ld_unit_lit' _ _ z2

theorem out4_apply (a : Fin 4096) (n : Fin 640) : out0_4 (F := Ideal) x0 x1 x2 x3 (ix3 0 a n)
    = resultR (aX x0 a) (aG x1) (fun k => x2 (ix2 n k)) (x3 (ix2 0 n)) := by
  unfold out0_4 k0_pay9 k0_pay10 resultR codeR
  rw [View.canon_cons_unit_lit' _ _ _ z3, ld0, ld1, ld2, ld3, pay2_apply, pay7_apply]
  simp only [pay8_apply]

theorem out5_apply (a : Fin 4096) (k : Fin 5120) : out0_5 (F := Ideal) x0 x1 x2 x3 (ix3 0 a k) = codeR (aX x0 a) (aG x1) k := by
  unfold out0_5 k0_pay10 codeR
  rw [View.canon_cons_unit_lit' _ _ _ z3, ld0, ld1, pay3_apply, pay8_apply]

theorem out6_apply (a : Fin 4096) : out0_6 (F := Ideal) x0 x1 x2 x3 (ix3 0 a 0) = Ideal.exp2 (rExp (vv (aX x0 a) (aG x1))) := by
  unfold out0_6 k0_pay9
  rw [View.canon_cons_unit_lit' _ _ _ z3, ld0, ld1, pay4_apply, pay7_apply]

end Out

/-! ## The blocks: the whole arrays -/

theorem j0 : ∀ t : Fin cfg0.N, win0_0.index t = ![0, 0, 0] := (by decide +kernel : ∀ t : Fin grid0.N, _)
theorem j1 : ∀ t : Fin cfg0.N, win0_1.index t = ![0, 0] := (by decide +kernel : ∀ t : Fin grid0.N, _)
theorem j2 : ∀ t : Fin cfg0.N, win0_2.index t = ![0, 0] := (by decide +kernel : ∀ t : Fin grid0.N, _)
theorem j3 : ∀ t : Fin cfg0.N, win0_3.index t = ![0, 0] := (by decide +kernel : ∀ t : Fin grid0.N, _)
theorem j4 : ∀ t : Fin cfg0.N, win0_4.index t = ![0, 0, 0] := (by decide +kernel : ∀ t : Fin grid0.N, _)
theorem j5 : ∀ t : Fin cfg0.N, win0_5.index t = ![0, 0, 0] := (by decide +kernel : ∀ t : Fin grid0.N, _)
theorem j6 : ∀ t : Fin cfg0.N, win0_6.index t = ![0, 0, 0] := (by decide +kernel : ∀ t : Fin grid0.N, _)

theorem emb0 (t : Fin cfg0.N) (a : Fin 4096) (k : Fin 5120) : (win0_0.blk t).view.emb (ix3 0 a k) = ix3 0 a k := by
  blk_ext [j0, ix3]

theorem emb1 (t : Fin cfg0.N) (k : Fin 5120) : (win0_1.blk t).view.emb (ix2 0 k) = ix2 0 k := by
  blk_ext [j1, ix2]

theorem emb2 (t : Fin cfg0.N) (n : Fin 640) (k : Fin 5120) : (win0_2.blk t).view.emb (ix2 n k) = ix2 n k := by
  blk_ext [j2, ix2]

theorem emb3 (t : Fin cfg0.N) (n : Fin 640) : (win0_3.blk t).view.emb (ix2 0 n) = ix2 0 n := by
  blk_ext [j3, ix2]

theorem emb4 (t : Fin cfg0.N) (a : Fin 4096) (n : Fin 640) : (win0_4.blk t).view.emb (ix3 0 a n) = ix3 0 a n := by
  blk_ext [j4, ix3]

theorem emb5 (t : Fin cfg0.N) (a : Fin 4096) (k : Fin 5120) : (win0_5.blk t).view.emb (ix3 0 a k) = ix3 0 a k := by
  blk_ext [j5, ix3]

theorem emb6 (t : Fin cfg0.N) (a : Fin 4096) : (win0_6.blk t).view.emb (ix3 0 a 0) = ix3 0 a 0 := by
  blk_ext [j6, ix3]

theorem blk0 (c : Dev nD) (t : Fin cfg0.N) (a : Fin 4096) : aX (iblk m c 0 t) a = rowX m c a := by
  funext k
  show V m c main_arg0 ((win0_0.blk t).view.emb (ix3 0 a k)) = _
  rw [emb0, V_main_arg0]
  rfl

theorem blk1 (c : Dev nD) (t : Fin cfg0.N) : aG (iblk m c 1 t) = rowG m c := by
  funext k
  show V m c main_v0 ((win0_1.blk t).view.emb (ix2 0 k)) = _
  rw [emb1, V_v0]
  exact ValueIdx.shapeCast_a_1a_apply _ _ _ _

theorem blk2 (c : Dev nD) (t : Fin cfg0.N) (n : Fin 640) : (fun k => iblk m c 2 t (ix2 n k)) = rowW m c n := by
  funext k
  show V m c main_arg2 ((win0_2.blk t).view.emb (ix2 n k)) = _
  rw [emb2, V_main_arg2]
  rfl

theorem blk3 (c : Dev nD) (t : Fin cfg0.N) (n : Fin 640) : iblk m c 3 t (ix2 0 n) = sclW m c n := by
  show V m c main_v1 ((win0_3.blk t).view.emb (ix2 0 n)) = _
  rw [emb3, V_v1]
  exact ValueIdx.shapeCast_a_1a_apply _ _ _ _

/-! ## The arrays -/

/-- The results. -/
def Y (c : Dev nD) : Vec Ideal S1x4096x640 .bf16 := fun y => resultR (rowX m c (y 1)) (rowG m c) (rowW m c (y 2)) (sclW m c (y 2))
/-- The codes. -/
def C (c : Dev nD) : Vec Ideal S1x4096x5120 .fp8e4m3 := fun y => codeR (rowX m c (y 1)) (rowG m c) (y 2)
/-- The scales. -/
def Z (c : Dev nD) : Vec Ideal S1x4096x1 .f32 := fun y => Ideal.exp2 (rExp (vv (rowX m c (y 1)) (rowG m c)))

theorem arr4 (c : Dev nD) : (dats m 0 c).arrAt 4 cfg0.N = Y m c := by
  refine (dats m 0 c).arrAt_eq_of_covers 4 _ (by decide +kernel) fun t hf y => ?_
  blk_simp
  rw [after0_4]
  obtain ⟨z, a, n, rfl⟩ : ∃ (z : Fin 1) (a : Fin 4096) (n : Fin 640), y = ix3 z a n := ⟨y 0, y 1, y 2, eq_ix3 y⟩
  obtain rfl : z = 0 := Subsingleton.elim _ _
  rw [emb4, out4_apply, blk0, blk1, blk2, blk3]
  rfl

theorem arr5 (c : Dev nD) : (dats m 0 c).arrAt 5 cfg0.N = C m c := by
  refine (dats m 0 c).arrAt_eq_of_covers 5 _ (by decide +kernel) fun t hf y => ?_
  blk_simp
  rw [after0_5]
  obtain ⟨z, a, k, rfl⟩ : ∃ (z : Fin 1) (a : Fin 4096) (k : Fin 5120), y = ix3 z a k := ⟨y 0, y 1, y 2, eq_ix3 y⟩
  obtain rfl : z = 0 := Subsingleton.elim _ _
  rw [emb5, out5_apply, blk0, blk1]
  rfl

theorem arr6 (c : Dev nD) : (dats m 0 c).arrAt 6 cfg0.N = Z m c := by
  refine (dats m 0 c).arrAt_eq_of_covers 6 _ (by decide +kernel) fun t hf y => ?_
  blk_simp
  rw [after0_6]
  obtain ⟨z, a, w, rfl⟩ : ∃ (z : Fin 1) (a : Fin 4096) (w : Fin 1), y = ix3 z a w := ⟨y 0, y 1, y 2, eq_ix3 y⟩
  obtain rfl : z = 0 := Subsingleton.elim _ _
  obtain rfl : w = 0 := Subsingleton.elim _ _
  rw [emb6, out6_apply, blk0, blk1]
  rfl

/-- The run: the three results, and the arguments as they were. -/
theorem run : θ_run defs (onTc (τ := τ) (main (F := Ideal))) ⟨m, fun _ => 0, ρ⟩ (fun r => ∀ c : Dev nD,
      r.2.mem ((c.tc : Thread nD τ).loc main_v2_0) = Y m c
      ∧ r.2.mem ((c.tc : Thread nD τ).loc main_v2_1) = C m c
      ∧ r.2.mem ((c.tc : Thread nD τ).loc main_v2_2) = Z m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (arr4 m c), ((h c).1 5).trans (arr5 m c), ((h c).1 6).trans (arr6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_main m ρ)

end Cert.Hand.Rf

end
-- ==== Proof.Equation.lean ====
/- The kernel and the reference compute the same three arrays from the same arguments, where no weight of the norm is
   infinite. -/
module

public import proofs.«01_k».proof.Defs
public import proofs.«01_k».proof.Proof.Arrays
public import proofs.«01_k».proof.Proof.Ref
public import proofs.«01_k».proof.Proof.Gen.Pre_gamma_finite

@[expose] public section

noncomputable section

namespace Cert.Hand

open Idealize.ShloMosaic Idealize.ShloMosaic.TcCoe Idealize.SL.Sem

/-! ## One row -/

/-- The kernel's code and the reference's: the products are the same ones in another order. -/
theorem code_eq (X G : Fin 5120 → EReal) (hG : ∀ k, ab (G k) ≤ gmax) (k : Fin 5120) : Kn.code X G k = Rf.codeR X G k := by
  unfold Kn.code Rf.codeR
  rw [(scales_eq (vv X G) (vv_nonneg X G) (vv_lt X G hG)).2]
  rw [mul_mul_mul_comm (X k), ← mul_assoc (X k * rr X)]

/-- The kernel's result and the reference's. -/
theorem result_eq (X G W : Fin 5120 → EReal) (w : EReal) (hG : ∀ k, ab (G k) ≤ gmax) : Kn.result X G W w = Rf.resultR X G W w := by
  unfold Kn.result Rf.resultR
  rw [(scales_eq (vv X G) (vv_nonneg X G) (vv_lt X G hG)).1]
  rw [(funext fun k => by rw [code_eq X G hG k] : (fun k => Kn.code X G k * W k) = fun k => Rf.codeR X G k * W k)]

/-! ## The arrays -/

section Arrays
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The precondition, of one weight. -/
theorem gamma_le (h : Cert.Pre_KernelIdeal_gamma_finite m) (c : Dev Cert.KernelIdeal.nD) (k : Fin 5120) : ab (Fr.rowG m c k) ≤ gmax := by
  have h1 := congrFun (h c) (ix1 k)
  have h2 : BitVec.ofBool (decide (ab (Fr.rowG m c k) ≤ gmax)) = 1#1 := h1
  by_contra hn
  rw [decide_eq_false hn] at h2
  exact absurd h2 (by decide)

variable (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include ha

theorem rowX_eq (c : Dev Cert.KernelIdeal.nD) (a : Fin 4096) : Rf.rowX m' c a = Fr.rowX m c a :=
  funext fun k => congrFun (ha c).1 (ix3 0 a k)
theorem rowG_eq (c : Dev Cert.KernelIdeal.nD) : Rf.rowG m' c = Fr.rowG m c :=
  funext fun k => congrFun (ha c).2.1 (ix1 k)
theorem rowW_eq (c : Dev Cert.KernelIdeal.nD) (n : Fin 640) : Rf.rowW m' c n = Fr.rowW m c n :=
  funext fun k => congrFun (ha c).2.2.1 (ix2 n k)
theorem sclW_eq (c : Dev Cert.KernelIdeal.nD) (n : Fin 640) : Rf.sclW m' c n = Fr.sclW m c n :=
  congrFun (ha c).2.2.2 (ix1 n)

variable (h : Cert.Pre_KernelIdeal_gamma_finite m)
include h

theorem y_eq (c : Dev Cert.KernelIdeal.nD) (a : Fin 4096) (n : Fin 640) :
    Rf.resultR (Rf.rowX m' c a) (Rf.rowG m' c) (Rf.rowW m' c n) (Rf.sclW m' c n)
      = Kn.result (Fr.rowX m c a) (Fr.rowG m c) (Fr.rowW m c n) (Fr.sclW m c n) := by
  rw [rowX_eq m m' ha, rowG_eq m m' ha, rowW_eq m m' ha, sclW_eq m m' ha, result_eq _ _ _ _ (gamma_le m h c)]

theorem c_eq (c : Dev Cert.KernelIdeal.nD) (a : Fin 4096) (k : Fin 5120) :
    Rf.codeR (Rf.rowX m' c a) (Rf.rowG m' c) k = Kn.code (Fr.rowX m c a) (Fr.rowG m c) k := by
  rw [rowX_eq m m' ha, rowG_eq m m' ha, code_eq _ _ (gamma_le m h c)]

theorem z_eq (c : Dev Cert.KernelIdeal.nD) (a : Fin 4096) :
    Ideal.exp2 (rExp (vv (Rf.rowX m' c a) (Rf.rowG m' c))) = kScale (vv (Fr.rowX m c a) (Fr.rowG m c)) := by
  rw [rowX_eq m m' ha, rowG_eq m m' ha, (scales_eq _ (vv_nonneg _ _) (vv_lt _ _ (gamma_le m h c))).1]

/-- The results agree. -/
theorem Y_eq (c : Dev Cert.KernelIdeal.nD) : Rf.Y m' c = Fr.Y m c := funext fun y => y_eq m m' ha h c (y 1) (y 2)
/-- The codes agree. -/
theorem C_eq (c : Dev Cert.KernelIdeal.nD) : Rf.C m' c = Fr.C m c := funext fun y => c_eq m m' ha h c (y 1) (y 2)
/-- The scales agree. -/
theorem Z_eq (c : Dev Cert.KernelIdeal.nD) : Rf.Z m' c = Fr.Z m c := funext fun y => z_eq m m' ha h c (y 1)

end Arrays

/-- Kernel and reference compute the same function over the extended reals. -/
theorem algebraic : Cert.algebraic_KernelIdeal_ReferenceIdeal_pre_gamma_finite := fun m g m' g' h ha =>
  ⟨Fr.Y m, Fr.C m, Fr.Z m, Fr.run m g, (θ_run _ _ _).mono (fun r hr c =>
    ⟨(hr c).1.trans (Y_eq m m' ha h c), (hr c).2.1.trans (C_eq m m' ha h c), (hr c).2.2.1.trans (Z_eq m m' ha h c), (hr c).2.2.2⟩) (Rf.run m' g')⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_finite
public import proofs.«01_k».proof.Proof.FrameB
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_gamma_finite.Gen.facts,
  fun m ρ _ => Cert.Kernel.Gen.frame m ρ,
  fun m ρ _ => Cert.Hand.Fr.frame m ρ,
  fun m ρ _ => Cert.Hand.Fr.frame m ρ,
  fun m ρ _ => Cert.ReferenceIdeal.Gen.frame m ρ,
  fun m ρ _ => Cert.ReferenceIdeal.Gen.frame m ρ,
  trivial,
  Cert.Hand.algebraic⟩

end Cert.Proof

end
